-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 2048]⟩ ⟨3, ![4, 2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048 : Shape := ⟨1, ![2048]⟩
abbrev S2x256x2048 : Shape := ⟨3, ![2, 256, 2048]⟩
abbrev S256x2048 : Shape := ⟨2, ![256, 2048]⟩
abbrev S512x2048 : Shape := ⟨2, ![512, 2048]⟩
abbrev S9 : Shape := ⟨1, ![9]⟩
abbrev S8 : Shape := ⟨1, ![8]⟩
abbrev S_ : Shape := ⟨0, ![]⟩
abbrev S1x256x2048 : Shape := ⟨3, ![1, 256, 2048]⟩
abbrev S1 : Shape := ⟨1, ![1]⟩
abbrev S256 : Shape := ⟨1, ![256]⟩
abbrev S256x1 : Shape := ⟨2, ![256, 1]⟩
abbrev S1x2048 : Shape := ⟨2, ![1, 2048]⟩

abbrev nBuf : Space → Nat
  | .hbm => 4
  | .vmem => 12
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .local _ .vmem, ⟨0, _⟩ => ⟨S1x2048x2048, .f32⟩
  | .local _ .vmem, ⟨1, _⟩ => ⟨S2048, .f32⟩
  | .local _ .vmem, ⟨2, _⟩ => ⟨S2048x2048, .f32⟩
  | .local _ .vmem, ⟨3, _⟩ => ⟨S2x256x2048, .bf16⟩
  | .local _ .vmem, ⟨4, _⟩ => ⟨S2x256x2048, .bf16⟩
  | .local _ .vmem, ⟨5, _⟩ => ⟨S2x256x2048, .bf16⟩
  | .local _ .vmem, ⟨6, _⟩ => ⟨S256x2048, .bf16⟩
  | .local _ .vmem, ⟨7, _⟩ => ⟨S2x256x2048, .bf16⟩
  | .local _ .vmem, ⟨8, _⟩ => ⟨S2x256x2048, .bf16⟩
  | .local _ .vmem, ⟨9, _⟩ => ⟨S2x256x2048, .bf16⟩
  | .local _ .vmem, ⟨10, _⟩ => ⟨S256x2048, .bf16⟩
  | .local _ .vmem, ⟨11, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_off1 (d0 : Dev nD) : Fin 3 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c512_i32 : BitVec 32 := 512#32
  let v10 : BitVec 32 := Scalar.muli v3 c512_i32
  let v11 : Index := Scalar.indexCast v10
  let c0_6 : Index := 0#32
  ![0, v11.toNat, 0]
def k0_off2 (d0 : Dev nD) : Fin 3 → Nat :=
  let c0_12 : Index := 0#32
  let c3_i32_10 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let v18 : BitVec 32 := Scalar.subi c3_i32_10 v3
  let c512_i32_11 : BitVec 32 := 512#32
  let v19 : BitVec 32 := Scalar.muli v18 c512_i32_11
  let v20 : Index := Scalar.indexCast v19
  let c0_13 : Index := 0#32
  ![0, v20.toNat, 0]
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_18 : BitVec 32 := 1#32
  let v27 : BitVec 32 := Scalar.muli v3 c1_i32_18
  let v28 : BitVec 32 := Scalar.addi c0_i32_19 v27
  v28.toNat
def k0_off3 (d0 : Dev nD) : Fin 3 → Nat :=
  let c0_21 : Index := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c512_i32_20 : BitVec 32 := 512#32
  let v33 : BitVec 32 := Scalar.muli v4 c512_i32_20
  let c256_i32 : BitVec 32 := 256#32
  let v34 : BitVec 32 := Scalar.addi v33 c256_i32
  let v35 : Index := Scalar.indexCast v34
  let c0_22 : Index := 0#32
  ![0, v35.toNat, 0]
def k0_off4 (d0 : Dev nD) : Fin 3 → Nat :=
  let c0_29 : Index := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_26 : BitVec 32 := 1#32
  let v42 : BitVec 32 := Scalar.xori v4 c1_i32_26
  let c512_i32_27 : BitVec 32 := 512#32
  let v43 : BitVec 32 := Scalar.muli v42 c512_i32_27
  let c256_i32_28 : BitVec 32 := 256#32
  let v44 : BitVec 32 := Scalar.addi v43 c256_i32_28
  let v45 : Index := Scalar.indexCast v44
  let c0_30 : Index := 0#32
  ![0, v45.toNat, 0]
def k0_dev4 (d0 : Dev nD) : Nat :=
  let c0_i32_37 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_36 : BitVec 32 := 1#32
  let v52 : BitVec 32 := Scalar.muli v4 c1_i32_36
  let v53 : BitVec 32 := Scalar.addi c0_i32_37 v52
  v53.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_38 : BitVec 32 := 512#32
  let v58 : BitVec 32 := Scalar.muli v2 c512_i32_38
  let c0_i32_39 : BitVec 32 := 0#32
  ![v58.toNat, 0]
def k0_off6 (d0 : Dev nD) : Fin 3 → Nat :=
  let c0_41 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_40 : BitVec 32 := 512#32
  let v62 : BitVec 32 := Scalar.muli v2 c512_i32_40
  let v63 : Index := Scalar.indexCast v62
  let c0_42 : Index := 0#32
  ![0, v63.toNat, 0]
def k0_off7 (d0 : Dev nD) : Fin 3 → Nat :=
  let c0_48 : Index := 0#32
  let c3_i32_46 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v70 : BitVec 32 := Scalar.subi c3_i32_46 v2
  let c512_i32_47 : BitVec 32 := 512#32
  let v71 : BitVec 32 := Scalar.muli v70 c512_i32_47
  let v72 : Index := Scalar.indexCast v71
  let c0_49 : Index := 0#32
  ![0, v72.toNat, 0]
def k0_off8 (d0 : Dev nD) : Fin 3 → Nat :=
  let c0_55 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_53 : BitVec 32 := 512#32
  let v79 : BitVec 32 := Scalar.muli v2 c512_i32_53
  let c256_i32_54 : BitVec 32 := 256#32
  let v80 : BitVec 32 := Scalar.addi v79 c256_i32_54
  let v81 : Index := Scalar.indexCast v80
  let c0_56 : Index := 0#32
  ![0, v81.toNat, 0]
def k0_off9 (d0 : Dev nD) : Fin 3 → Nat :=
  let c0_63 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v88 : BitVec 32 := Scalar.xori v2 c1_i32_60
  let c512_i32_61 : BitVec 32 := 512#32
  let v89 : BitVec 32 := Scalar.muli v88 c512_i32_61
  let c256_i32_62 : BitVec 32 := 256#32
  let v90 : BitVec 32 := Scalar.addi v89 c256_i32_62
  let v91 : Index := Scalar.indexCast v90
  let c0_64 : Index := 0#32
  ![0, v91.toNat, 0]
def k0_dev5 (d0 : Dev nD) : Nat :=
  let c0_i32_97 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_96 : BitVec 32 := 1#32
  let v120 : BitVec 32 := Scalar.muli v4 c1_i32_96
  let v121 : BitVec 32 := Scalar.addi c0_i32_97 v120
  v121.toNat
def k0_dev6 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_128 : BitVec 32 := 1#32
  let v150 : BitVec 32 := Scalar.muli v3 c1_i32_128
  let v151 : BitVec 32 := Scalar.addi c0_i32_129 v150
  v151.toNat
def k0_dev7 (d0 : Dev nD) : Nat :=
  let c0_i32_165 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_164 : BitVec 32 := 1#32
  let v198 : BitVec 32 := Scalar.muli v4 c1_i32_164
  let v199 : BitVec 32 := Scalar.addi c0_i32_165 v198
  v199.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_170 : BitVec 32 := 512#32
  let v208 : BitVec 32 := Scalar.muli v2 c512_i32_170
  let v209 : Index := Scalar.indexCast v208
  let c0_171 : Index := 0#32
  ![v209.toNat, 0]
def k0_dev8 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_201 : BitVec 32 := 1#32
  let v248 : BitVec 32 := Scalar.muli v3 c1_i32_201
  let v249 : BitVec 32 := Scalar.addi c0_i32_202 v248
  v249.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_207 : BitVec 32 := 512#32
  let v258 : BitVec 32 := Scalar.muli v2 c512_i32_207
  let c256_i32_208 : BitVec 32 := 256#32
  let v259 : BitVec 32 := Scalar.addi v258 c256_i32_208
  let v260 : Index := Scalar.indexCast v259
  let c0_209 : Index := 0#32
  ![v260.toNat, 0]
def k0_dev9 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_230 : BitVec 32 := 1#32
  let v276 : BitVec 32 := Scalar.muli v3 c1_i32_230
  let v277 : BitVec 32 := Scalar.addi c0_i32_231 v276
  v277.toNat
def k0_off12 (d0 : Dev nD) : Fin 2 → Nat :=
  let c3_i32_235 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v285 : BitVec 32 := Scalar.subi c3_i32_235 v2
  let c512_i32_236 : BitVec 32 := 512#32
  let v286 : BitVec 32 := Scalar.muli v285 c512_i32_236
  let v287 : Index := Scalar.indexCast v286
  let c0_237 : Index := 0#32
  ![v287.toNat, 0]
def k0_dev10 (d0 : Dev nD) : Nat :=
  let c0_i32_259 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_258 : BitVec 32 := 1#32
  let v303 : BitVec 32 := Scalar.muli v4 c1_i32_258
  let v304 : BitVec 32 := Scalar.addi c0_i32_259 v303
  v304.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_263 : BitVec 32 := 1#32
  let v312 : BitVec 32 := Scalar.xori v2 c1_i32_263
  let c512_i32_264 : BitVec 32 := 512#32
  let v313 : BitVec 32 := Scalar.muli v312 c512_i32_264
  let c256_i32_265 : BitVec 32 := 256#32
  let v314 : BitVec 32 := Scalar.addi v313 c256_i32_265
  let v315 : Index := Scalar.indexCast v314
  let c0_266 : Index := 0#32
  ![v315.toNat, 0]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c512_i32_277 : BitVec 32 := 512#32
  let v326 : BitVec 32 := Scalar.muli v3 c512_i32_277
  let v327 : Index := Scalar.indexCast v326
  let c0_278 : Index := 0#32
  ![v327.toNat, 0]
def k0_off15 (d0 : Dev nD) : Fin 2 → Nat :=
  let c3_i32_282 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let v332 : BitVec 32 := Scalar.subi c3_i32_282 v3
  let c512_i32_283 : BitVec 32 := 512#32
  let v333 : BitVec 32 := Scalar.muli v332 c512_i32_283
  let v334 : Index := Scalar.indexCast v333
  let c0_284 : Index := 0#32
  ![v334.toNat, 0]
def k0_off16 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c512_i32_295 : BitVec 32 := 512#32
  let v345 : BitVec 32 := Scalar.muli v4 c512_i32_295
  let c256_i32_296 : BitVec 32 := 256#32
  let v346 : BitVec 32 := Scalar.addi v345 c256_i32_296
  let v347 : Index := Scalar.indexCast v346
  let c0_297 : Index := 0#32
  ![v347.toNat, 0]
def k0_off17 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_301 : BitVec 32 := 1#32
  let v352 : BitVec 32 := Scalar.xori v4 c1_i32_301
  let c512_i32_302 : BitVec 32 := 512#32
  let v353 : BitVec 32 := Scalar.muli v352 c512_i32_302
  let c256_i32_303 : BitVec 32 := 256#32
  let v354 : BitVec 32 := Scalar.addi v353 c256_i32_303
  let v355 : Index := Scalar.indexCast v354
  let c0_304 : Index := 0#32
  ![v355.toNat, 0]
abbrev stage0_0 : Fin 1 → Memref sig .tc .vmem S1x2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Slabs.lean ====
/-
# Owned views of a device's buffers, and the loads and stores through them

A buffer of two slabs is held either whole or as its two slabs; what a holder knows is what the view reads. The rules
here step one load or one store through a view so held, whatever the buffer, the rectangle and the contents.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.Memref
public import Idealize.ShloMosaic.Lib.MemrefSat
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the staging pipeline's own part, and the rounds of the exchange (duties named by a truth value). -/
abbrev UB : Type := URounds (GSem nD τ sig) Bool
abbrev UU : Type := UR sig nD τ × UB

local notation "𝕄" => MT nD τ sig Unit (Elt F) ℕ UU ℕ

/-! ## Two-slab buffers -/

/-- A view of a vector-memory buffer of two slabs, and of one slab. -/
abbrev Two : Type := Memref sig .tc .vmem S2x256x2048 .bf16
abbrev One : Type := Memref sig .tc .vmem S1x256x2048 .bf16
abbrev Flat : Type := Memref sig .tc .vmem S256x2048 .bf16

/-- The rectangles of the two slabs. -/
abbrev rect0 : Rect S2x256x2048 := Rect.unit (s := S2x256x2048) ![0, 0, 0] S1x256x2048.size inb_S2x256x2048_S1x256x2048_0_0_0
abbrev rect1 : Rect S2x256x2048 := Rect.unit (s := S2x256x2048) ![1, 0, 0] S1x256x2048.size inb_S2x256x2048_S1x256x2048_1_0_0

/-- The views of the two slabs, and the same with the leading axis of length one dropped. -/
abbrev slab0 (M : Two) : One := M.slice rect0 (fun _ => rfl)
abbrev slab1 (M : Two) : One := M.slice rect1 (fun _ => rfl)
abbrev flat0 (M : Two) : Flat := (slab0 M).squeeze S256x2048 squeezes_S1x256x2048_S256x2048
abbrev flat1 (M : Two) : Flat := (slab1 M).squeeze S256x2048 squeezes_S1x256x2048_S256x2048

/-- Contents of one slab with the leading axis dropped. -/
def flatten (v : Vec F S1x256x2048 .bf16) : Vec F S256x2048 .bf16 := fun i => v (Shape.reshapeEquiv squeezes_S1x256x2048_S256x2048.numel_eq i)

/-- An index of the buffer as an index of its slab. -/
def drop (i : S2x256x2048.Idx) : S1x256x2048.Idx := fun a => ⟨if a.val = 0 then 0 else (i a).val, by
  match a with
  | ⟨0, _⟩ => exact Nat.zero_lt_one
  | ⟨1, h⟩ => exact (i ⟨1, h⟩).isLt
  | ⟨2, h⟩ => exact (i ⟨2, h⟩).isLt⟩

/-- Contents of two slabs as the contents of the buffer. -/
def two (v w : Vec F S1x256x2048 .bf16) : Vec F S2x256x2048 .bf16 := fun i => if (i 0).val = 0 then v (drop i) else w (drop i)

/-- A device holds a view outright, at some contents. -/
def some' (c : Dev nD) {sp : Space} {s : Shape} {e : EltTy} (M : Memref sig .tc sp s e) : sProp 𝕄 := iprop(∃ X, owns (c : Thread nD τ) M fullShare X)

/-- Contents `X` with the rectangle `r` overwritten by `w`. -/
def put {s : Shape} {V : Type} (r : Rect s) (w : r.shape.Idx → V) (X : s.Idx → V) : s.Idx → V :=
  fun y => match preimage? r.emb y with | some x => w x | none => X y

theorem put_emb {s : Shape} {V : Type} (r : Rect s) (w : r.shape.Idx → V) (X : s.Idx → V) (x : r.shape.Idx) : put r w X (r.emb x) = w x := by
  unfold put; rw [preimage?_emb]

theorem put_off {s : Shape} {V : Type} (r : Rect s) (w : r.shape.Idx → V) (X : s.Idx → V) {y : s.Idx} (h : ¬ ∃ x, r.emb x = y) :
    put r w X y = X y := by
  unfold put; rw [preimage?_eq_none fun x hx => h ⟨x, hx⟩]

/-! ## One load, one store -/

abbrev 𝒱₀ : Variants := Variants.none

section Steps

variable {α : Type} (c : Dev nD)

/-- A load through a held view continues at what the holder knows, at the rectangle's indices. -/
theorem load_view {sp : CoreSpace} {s : Shape} {e : EltTy} (M : Memref sig .tc sp s e) (r : LoadRect s) {hl : M.view.LoadsAt r}
    {q : PosShare TreeShare} {X : s.Idx → Elt F e} {k : (r.shape.Idx → Elt F e) → Prog (TpuEff nD τ sig (Elt F) Λ₀ .tc) α} {Q : α → sProp 𝕄} :
    (owns (c : Thread nD τ) M q X : sProp 𝕄)
      ⊢ iprop((owns (c : Thread nD τ) M q X -∗ wp frame (wpE (defs₀ (F := F)) 𝒱₀ c none) Set.univ (k fun j => X (r.idx j)) Q)
        -∗ wp frame (wpE (defs₀ (F := F)) 𝒱₀ c none) Set.univ (.op (.load M r hl) k) Q) := by
  unfold owns
  iintro ⟨%f, %hf, H⟩ Hk
  subst hf
  iapply (wp_load 𝒱₀ (c : Thread nD τ) none Set.univ (S := M.view.set) (View.setOn_subset_set _ _)) $$ H
  iintro H
  iapply Hk
  iexists f
  isplitr; · ipureintro; rfl
  iexact H

/-- A load of a rectangle of which exactly the slice is held. -/
theorem load_slice {sp : CoreSpace} {s : Shape} {e : EltTy} (M : Memref sig .tc sp s e) (r : Rect s) (hr : ∀ a, r.stride a = 1)
    {hl : M.view.LoadsAt r.toLoadRect} {q : PosShare TreeShare} {X : r.shape.Idx → Elt F e}
    {k : (r.shape.Idx → Elt F e) → Prog (TpuEff nD τ sig (Elt F) Λ₀ .tc) α} {Q : α → sProp 𝕄} :
    (owns (c : Thread nD τ) (M.slice r hr) q X : sProp 𝕄)
      ⊢ iprop((owns (c : Thread nD τ) (M.slice r hr) q X -∗ wp frame (wpE (defs₀ (F := F)) 𝒱₀ c none) Set.univ (k X) Q)
        -∗ wp frame (wpE (defs₀ (F := F)) 𝒱₀ c none) Set.univ (.op (.load M r.toLoadRect hl) k) Q) := by
  unfold owns
  iintro ⟨%f, %hf, H⟩ Hk
  subst hf
  iapply (wp_load_rect 𝒱₀ (c : Thread nD τ) none Set.univ (m := M) (r := r) (S := (M.access r).set) subset_rfl) $$ H
  iintro H
  iapply Hk
  iexists f
  isplitr; · ipureintro; rfl
  iexact H

/-- A store to a rectangle whose slice is held outright: the slice then reads what was stored. -/
theorem store_slice {sp : CoreSpace} {s : Shape} {e : EltTy} (M : Memref sig .tc sp s e) (r : Rect s) (hr : ∀ a, r.stride a = 1)
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (some' (F := F) c (M.slice r hr))
      ⊢ iprop((owns (c : Thread nD τ) (M.slice r hr) fullShare w -∗ wp frame (wpE (defs₀ (F := F)) 𝒱₀ c none) Set.univ (k ⟨⟩) Q)
        -∗ wp frame (wpE (defs₀ (F := F)) 𝒱₀ c none) Set.univ (.op (.store M r w Finset.univ hx hm) k) Q) := by
  unfold some' owns
  iintro ⟨%X, %f, %hf, H⟩ Hk
  iapply (wp_store 𝒱₀ (c : Thread nD τ) none Set.univ (m := M) (r := r) (S := (M.access r).set) subset_rfl) $$ H
  iintro H
  iapply Hk
  iexists (M.access r).write (Elt F) f w Finset.univ
  isplitr; · ipureintro; exact View.read_write_univ _ _
  iexact H

/-- A store to a rectangle of a view held outright: the view then reads what it read, the rectangle overwritten. -/
theorem store_view {sp : CoreSpace} {s : Shape} {e : EltTy} (M : Memref sig .tc sp s e) (r : Rect s)
    {w : r.shape.Idx → Elt F e} {hx : (M.access r).Stores Finset.univ} {hm : (Finset.univ : Finset r.shape.Idx) = Finset.univ ∨ ∀ a, r.stride a = 1}
    {X : s.Idx → Elt F e} {k : PUnit → Prog (TpuEff nD τ sig (Elt F) Λ₀ .tc) α} {Q : α → sProp 𝕄} :
    (owns (c : Thread nD τ) M fullShare X : sProp 𝕄)
      ⊢ iprop((owns (c : Thread nD τ) M fullShare (put r w X) -∗ wp frame (wpE (defs₀ (F := F)) 𝒱₀ c none) Set.univ (k ⟨⟩) Q)
        -∗ wp frame (wpE (defs₀ (F := F)) 𝒱₀ c none) Set.univ (.op (.store M r w Finset.univ hx hm) k) Q) := by
  unfold owns
  iintro ⟨%f, %hf, H⟩ Hk
  subst hf
  iapply (wp_store 𝒱₀ (c : Thread nD τ) none Set.univ (m := M) (r := r) (S := M.view.set) (View.set_slice_subset _ r)) $$ H
  iintro H
  iapply Hk
  iexists (M.access r).write (Elt F) f w Finset.univ
  isplitr
  · ipureintro
    funext y
    by_cases hy : ∃ x, r.emb x = y
    · obtain ⟨x, rfl⟩ := hy
      rw [put_emb]
      exact View.read_slice_write_emb r f w (Finset.mem_univ x)
    · rw [put_off r w _ hy]
      exact View.read_slice_write_of_not_mem r f w _ fun h => hy (by
        obtain ⟨x, -, hx⟩ := Finset.mem_map.mp h; exact ⟨x, hx⟩)
  iexact H

end Steps

/-! ## Two slabs are the buffer -/

theorem rect_disjoint : Disjoint rect0.set rect1.set := Rect.unit_disjoint (s := S2x256x2048) (0 : Fin 3) (Or.inl (by decide))

theorem rect_union : rect0.set ∪ rect1.set = Finset.univ := by
  ext i
  rw [Finset.mem_union, Rect.mem_set_unit, Rect.mem_set_unit]
  have h0 : (i 0).val < 2 := (i 0).isLt
  have h1 : (i 1).val < 256 := (i 1).isLt
  have h2 : (i 2).val < 2048 := (i 2).isLt
  refine iff_of_true ?_ (Finset.mem_univ _)
  rcases (by omega : (i 0).val = 0 ∨ (i 0).val = 1) with h | h
  · left; intro a
    match a with
    | ⟨0, _⟩ => exact ⟨Nat.zero_le _, by show (i 0).val < 0 + 1; omega⟩
    | ⟨1, _⟩ => exact ⟨Nat.zero_le _, by show (i 1).val < 0 + 256; omega⟩
    | ⟨2, _⟩ => exact ⟨Nat.zero_le _, by show (i 2).val < 0 + 2048; omega⟩
  · right; intro a
    match a with
    | ⟨0, _⟩ => exact ⟨by show 1 ≤ (i 0).val; omega, by show (i 0).val < 1 + 1; omega⟩
    | ⟨1, _⟩ => exact ⟨Nat.zero_le _, by show (i 1).val < 0 + 256; omega⟩
    | ⟨2, _⟩ => exact ⟨Nat.zero_le _, by show (i 2).val < 0 + 2048; omega⟩

theorem two_rect0 (v w : Vec F S1x256x2048 .bf16) (j : S1x256x2048.Idx) : two v w (rect0.emb j) = v j := by
  have h0 : (j 0).val = 0 := Nat.lt_one_iff.mp (j 0).isLt
  have e0 : (rect0.emb j 0).val = 0 := by show 0 + 1 * (j 0).val = 0; omega
  unfold two
  rw [if_pos e0]
  congr 1
  funext a
  match a with
  | ⟨0, _⟩ => exact Fin.ext (by show 0 = (j 0).val; omega)
  | ⟨1, _⟩ => exact Fin.ext (by show 0 + 1 * (j 1).val = (j 1).val; omega)
  | ⟨2, _⟩ => exact Fin.ext (by show 0 + 1 * (j 2).val = (j 2).val; omega)

theorem two_rect1 (v w : Vec F S1x256x2048 .bf16) (j : S1x256x2048.Idx) : two v w (rect1.emb j) = w j := by
  have h0 : (j 0).val = 0 := Nat.lt_one_iff.mp (j 0).isLt
  have e0 : (rect1.emb j 0).val = 1 := by show 1 + 1 * (j 0).val = 1; omega
  unfold two
  rw [if_neg (by omega)]
  congr 1
  funext a
  match a with
  | ⟨0, _⟩ => exact Fin.ext (by show 0 = (j 0).val; omega)
  | ⟨1, _⟩ => exact Fin.ext (by show 0 + 1 * (j 1).val = (j 1).val; omega)
  | ⟨2, _⟩ => exact Fin.ext (by show 0 + 1 * (j 2).val = (j 2).val; omega)

theorem slab_disjoint (M : Two) : Disjoint (slab0 M).view.set (slab1 M).view.set := by
  show Disjoint (M.view.slice rect0).set (M.view.slice rect1).set
  rw [View.set_slice, View.set_slice]
  exact (Finset.disjoint_map _).mpr rect_disjoint

theorem slab_union (M : Two) : (slab0 M).view.set ∪ (slab1 M).view.set = M.view.set := by
  show (M.view.slice rect0).set ∪ (M.view.slice rect1).set = _
  rw [View.set_slice, View.set_slice, ← Finset.map_union, rect_union]
  rfl

/-- A two-slab buffer is its two slabs. -/
theorem two_split (c : Dev nD) (M : Two) (q : PosShare TreeShare) (X : Vec F S2x256x2048 .bf16) :
    (owns (c : Thread nD τ) M q X : sProp 𝕄)
      ⊢ iprop(owns (c : Thread nD τ) (slab0 M) q (fun j => X (rect0.emb j)) ∗ owns (c : Thread nD τ) (slab1 M) q (fun j => X (rect1.emb j))) := by
  unfold owns
  iintro ⟨%f, %hf, H⟩
  subst hf
  rw [← slab_union M]
  ihave H' := (pointsTo_union (slab_disjoint M)).1 $$ H
  icases H' with ⟨H0, H1⟩
  isplitl [H0]
  · iexists f
    isplitr; · ipureintro; rfl
    iexact H0
  · iexists f
    isplitr; · ipureintro; rfl
    iexact H1

/-- Two slabs are a two-slab buffer. -/
theorem two_join (c : Dev nD) (M : Two) (q : PosShare TreeShare) (v w : Vec F S1x256x2048 .bf16) :
    iprop(owns (c : Thread nD τ) (slab0 M) q v ∗ owns (c : Thread nD τ) (slab1 M) q w) ⊢ (owns (c : Thread nD τ) M q (two v w) : sProp 𝕄) := by
  unfold owns
  iintro ⟨⟨%f, %hf, H0⟩, %g, %hg, H1⟩
  ihave H := (pointsTo_join (ℓ := M.view.loc (c : Thread nD τ)) (I := (slab0 M).view.set) (J := (slab1 M).view.set) (slab_disjoint M)) $$ [H0 H1]
  · isplitl [H0]; · iexact H0
    iexact H1
  iexists ((slab1 M).view.set.piecewise g f)
  isplitr
  · ipureintro
    funext y
    have hy : y ∈ rect0.set ∪ rect1.set := by rw [rect_union]; exact Finset.mem_univ y
    rw [Finset.mem_union, ← Rect.map_emb_univ, ← Rect.map_emb_univ, Finset.mem_map, Finset.mem_map] at hy
    rcases hy with ⟨j, -, rfl⟩ | ⟨j, -, rfl⟩
    · rw [two_rect0, ← congrFun hf j]
      show cast _ _ = cast _ _
      congr 1
      exact Finset.piecewise_eq_of_notMem _ _ _ (Finset.disjoint_left.mp (slab_disjoint M) (View.emb_mem_set (v := (slab0 M).view) j))
    · rw [two_rect1, ← congrFun hg j]
      show cast _ _ = cast _ _
      congr 1
      exact Finset.piecewise_eq_of_mem _ _ _ (View.emb_mem_set (v := (slab1 M).view) j)
  rw [← slab_union M]
  iexact H

theorem two_split' (c : Dev nD) (M : Two) (q : PosShare TreeShare) (v w : Vec F S1x256x2048 .bf16) :
    (owns (c : Thread nD τ) M q (two v w) : sProp 𝕄)
      ⊢ iprop(owns (c : Thread nD τ) (slab0 M) q v ∗ owns (c : Thread nD τ) (slab1 M) q w) := by
  refine (two_split c M q (two v w)).trans (Entails.of_eq ?_)
  simp only [two_rect0, two_rect1]

/-- The same at some contents. -/
theorem some_split (c : Dev nD) (M : Two) : (some' (F := F) c M) ⊢ iprop(some' (F := F) c (slab0 M) ∗ some' (F := F) c (slab1 M)) := by
  unfold some'
  iintro ⟨%X, H⟩
  ihave H' := (two_split c M fullShare X) $$ H
  icases H' with ⟨H0, H1⟩
  isplitl [H0]
  · iexists _; iexact H0
  · iexists _; iexact H1

theorem some_join (c : Dev nD) (M : Two) : iprop(some' (F := F) c (slab0 M) ∗ some' (F := F) c (slab1 M)) ⊢ (some' (F := F) c M) := by
  unfold some'
  iintro ⟨⟨%X, H0⟩, %Y, H1⟩
  iexists two X Y
  iapply (two_join c M fullShare X Y)
  isplitl [H0]; · iexact H0
  iexact H1

/-- A slab with its leading axis dropped. -/
theorem flat_intro (c : Dev nD) (M : One) (q : PosShare TreeShare) (v : Vec F S1x256x2048 .bf16) :
    (owns (c : Thread nD τ) M q v : sProp 𝕄) ⊢ owns (c : Thread nD τ) (M.squeeze S256x2048 squeezes_S1x256x2048_S256x2048) q (flatten v) := by
  unfold owns
  iintro ⟨%f, %hf, H⟩
  subst hf
  iexists f
  isplitr; · ipureintro; rfl
  rw [Memref.set_view_squeeze]
  iexact H

/-- A slab held with its leading axis dropped is the slab. -/
theorem flat_elim (c : Dev nD) (M : One) (q : PosShare TreeShare) (v : Vec F S1x256x2048 .bf16) :
    (owns (c : Thread nD τ) (M.squeeze S256x2048 squeezes_S1x256x2048_S256x2048) q (flatten v) : sProp 𝕄) ⊢ owns (c : Thread nD τ) M q v := by
  unfold owns
  iintro ⟨%f, %hf, H⟩
  iexists f
  isplitr
  · ipureintro
    funext j
    have h := congrFun hf ((Shape.reshapeEquiv squeezes_S1x256x2048_S256x2048.numel_eq).symm j)
    unfold flatten at h
    rw [Equiv.apply_symm_apply] at h
    rw [← h]
    show _ = M.view.read (Elt F) f (Shape.reshapeEquiv squeezes_S1x256x2048_S256x2048.numel_eq ((Shape.reshapeEquiv squeezes_S1x256x2048_S256x2048.numel_eq).symm j))
    rw [Equiv.apply_symm_apply]
  rw [Memref.set_view_squeeze]
  iexact H

theorem some_intro (c : Dev nD) {sp : Space} {s : Shape} {e : EltTy} (M : Memref sig .tc sp s e) (X : s.Idx → Elt F e) :
    (owns (c : Thread nD τ) M fullShare X : sProp 𝕄) ⊢ some' (F := F) c M := by
  unfold some'; iintro H; iexists X; iexact H

theorem some_flat (c : Dev nD) (M : One) : (some' (F := F) c M) ⊢ some' (F := F) c (M.squeeze S256x2048 squeezes_S1x256x2048_S256x2048) := by
  unfold some'
  iintro ⟨%X, H⟩
  iexists flatten X
  iapply (flat_intro c M fullShare X) $$ H

end Cert.Exchange
-- ==== Proof.Values.lean ====
/-
# The devices and the values

Four devices exchange twice over with two partners, each row half in its own order of the partners. Here: the partners,
the blocks of rows each device reads of its input, and what the buffers hold at every stage of the exchange.
-/
module

public import proofs.«01_k».proof.Proof.Slabs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The partners -/

set_option backward.proofsInPublic true in
/-- The partner whose number differs in the last bit, -/
def q1 (c : Dev nD) : Dev nD := ⟨match c.val with | 0 => 1 | 1 => 0 | 2 => 3 | _ => 2, by revert c; decide⟩
set_option backward.proofsInPublic true in
/-- and the one whose number is the complement. -/
def q2 (c : Dev nD) : Dev nD := ⟨3 - c.val, by revert c; decide⟩

theorem q1_q1 (c : Dev nD) : q1 (q1 c) = c := by revert c; decide
theorem q2_q2 (c : Dev nD) : q2 (q2 c) = c := by revert c; decide
theorem q1_q2 (c : Dev nD) : q1 (q2 c) = q2 (q1 c) := by revert c; decide

/-- The half's partner in the first exchange, and in the second: the first half of a block's rows (`false`) goes to `q1`
    first, the second half (`true`) to `q2` first. -/
def near (h : Bool) (c : Dev nD) : Dev nD := if h then q2 c else q1 c
def far (h : Bool) (c : Dev nD) : Dev nD := if h then q1 c else q2 c

theorem near_near (h : Bool) (c : Dev nD) : near h (near h c) = c := by cases h; exact q1_q1 c; exact q2_q2 c
theorem far_far (h : Bool) (c : Dev nD) : far h (far h c) = c := by cases h; exact q2_q2 c; exact q1_q1 c

/-! ## The blocks of rows -/

/-- Where half `h` of block `k` of the rows begins. -/
def row0 (h : Bool) (k : Dev nD) : ℕ := 512 * k.val + if h then 256 else 0

theorem row0_le (h : Bool) (k : Dev nD) : row0 h k + 256 ≤ 2048 := by
  have : k.val < 4 := k.isLt
  cases h <;> simp only [row0] <;> simp <;> omega

theorem xinb (h : Bool) (k : Dev nD) : ∀ a, (![0, row0 h k, 0] : Fin 3 → ℕ) a + S1x256x2048.size a ≤ S1x2048x2048.size a := fun a => by
  match a with
  | ⟨0, _⟩ => exact Nat.le_refl 1
  | ⟨1, _⟩ => exact row0_le h k
  | ⟨2, _⟩ => exact Nat.le_refl 2048

theorem oinb (h : Bool) (k : Dev nD) : ∀ a, (![row0 h k, 0] : Fin 2 → ℕ) a + S256x2048.size a ≤ S2048x2048.size a := fun a => by
  match a with
  | ⟨0, _⟩ => exact row0_le h k
  | ⟨1, _⟩ => exact Nat.le_refl 2048

/-- The rectangle of those rows in the input, and in the result. -/
abbrev xrect (h : Bool) (k : Dev nD) : Rect S1x2048x2048 := Rect.unit (s := S1x2048x2048) ![0, row0 h k, 0] S1x256x2048.size (xinb h k)
abbrev orect (h : Bool) (k : Dev nD) : Rect S2048x2048 := Rect.unit (s := S2048x2048) ![row0 h k, 0] S256x2048.size (oinb h k)

/-- Those rows of an input. -/
def rowsOf (X : Vec F S1x2048x2048 .f32) (h : Bool) (k : Dev nD) : Vec F S1x256x2048 .f32 := fun j => X ((xrect h k).emb j)

/-- A load of the rows at an offset known to be theirs. -/
theorem rows_load (X : Vec F S1x2048x2048 .f32) (h : Bool) (k : Dev nD) {off : Fin 3 → ℕ} (e : off = ![0, row0 h k, 0])
    (inb : ∀ a, off a + S1x256x2048.size a ≤ S1x2048x2048.size a) :
    (fun j => X ((Rect.unit (s := S1x2048x2048) off S1x256x2048.size inb).toLoadRect.idx j)) = rowsOf X h k := by subst e; rfl

/-! ## What the buffers hold -/

section Values

variable (m : (ℓ : Loc nD τ sig) → Buf (Elt F) ℓ)

/-- The three inputs on device `c`: its part of the sum, the residual, the scale. -/
def xin (c : Dev nD) : Vec F S1x2048x2048 .f32 := m ((c : Thread nD τ).loc main_arg0)
def rin (c : Dev nD) : Vec F S2048x2048 .f32 := m ((c : Thread nD τ).loc main_arg1)
def gin (c : Dev nD) : Vec F S2048 .f32 := m ((c : Thread nD τ).loc main_arg2)

/-- Device `c`'s rows of half `h` of block `k`, in the short format. -/
def part (h : Bool) (c k : Dev nD) : Vec F S1x256x2048 .bf16 := k0_pay1 (rowsOf (xin m c) h k)

/-- What `c` sends first: the rows its first partner will keep, and those that partner will pass on. -/
def snd0 (h : Bool) (c : Dev nD) : Vec F S1x256x2048 .bf16 := part m h c (near h c)
def snd1 (h : Bool) (c : Dev nD) : Vec F S1x256x2048 .bf16 := part m h c (far h (near h c))

/-- The sums of two after the first exchange: of the rows `c` keeps, and of those its second partner keeps. -/
def acc0 (h : Bool) (c : Dev nD) : Vec F S1x256x2048 .bf16 := k0_pay9 (part m h c c) (snd0 m h (near h c))
def acc1 (h : Bool) (c : Dev nD) : Vec F S1x256x2048 .bf16 := k0_pay9 (part m h c (far h c)) (snd1 m h (near h c))

/-- The block of the residual that `c` reads, and its two halves. -/
def res (c : Dev nD) : Vec F S512x2048 .f32 := fun j => rin m c ((Rect.unit (s := S2048x2048) (k0_off5 c) S512x2048.size (k0_off5_inb c)).emb j)
def resH (h : Bool) (c : Dev nD) : Vec F S256x2048 .f32 :=
  if h then fun j => res m c ((Rect.unit (s := S512x2048) ![256, 0] S256x2048.size inb_S512x2048_S256x2048_256_0).emb j)
  else fun j => res m c ((Rect.unit (s := S512x2048) ![0, 0] S256x2048.size inb_S512x2048_S256x2048_0_0).emb j)

/-- The rows `c` finishes: the sum of four and the residual, normalised and scaled. -/
def fin (h : Bool) (c : Dev nD) : Vec F S256x2048 .f32 := k0_pay15 (acc0 m h c) (flatten (acc1 m h (far h c))) (resH m h c) (gin m c)

/-- The same in the short format, as the devices pass them round. -/
def fins (h : Bool) (c : Dev nD) : Vec F S1x256x2048 .bf16 := k0_pay16 (acc0 m h c) (flatten (acc1 m h (far h c))) (resH m h c) (gin m c)

/-- What `c` stores for the rows of block `k`: what it finished itself, or what it was passed. -/
def outH (h : Bool) (c k : Dev nD) : Vec F S256x2048 .f32 := if k = c then fin m h c else k0_pay20 (fins m h k)

/-- The result on device `c`, row by row. -/
def outAt (c : Dev nD) : Vec F S2048x2048 .f32 := fun i =>
  outH m (decide (256 ≤ (i 0).val % 512)) c ⟨(i 0).val / 512, by have : (i 0).val < 2048 := (i 0).isLt; show (i 0).val / 512 < 4; omega⟩
    (fun a => match a with
      | ⟨0, _⟩ => (⟨(i 0).val % 256, Nat.mod_lt _ (by decide)⟩ : Fin 256)
      | ⟨1, _⟩ => (i 1 : Fin 2048))

end Values

end Cert.Exchange
-- ==== Proof.Plan.lean ====
/-
# The exchange as rounds of semaphores

Every semaphore of the exchange is used for one round. Copy `i` (of eight) is counted by semaphore `3 + i` where it
starts and by semaphore `12 + i` where it lands; semaphore 11 counts the device's own copy of the residual; the barrier
semaphore is raised once by either partner. Here: the cells, what each round hands to the one who waits for it, what
each device owes, and the order of the waits.
-/
module

public import proofs.«01_k».proof.Proof.Values

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The buffers -/

/-- Per half: the two-slab buffer sent from, the one received in, the sums, and the sums received. -/
abbrev sendM (h : Bool) : Two := match h with | false => Memref.whole cc0_scratch0 | true => Memref.whole cc0_scratch4
abbrev recvM (h : Bool) : Two := match h with | false => Memref.whole cc0_scratch1 | true => Memref.whole cc0_scratch5
abbrev accM (h : Bool) : Two := match h with | false => Memref.whole cc0_scratch2 | true => Memref.whole cc0_scratch6
abbrev gotM (h : Bool) : Flat := match h with | false => Memref.whole cc0_scratch3 | true => Memref.whole cc0_scratch7
/-- The block of the residual: where it comes from, and where it goes. -/
abbrev resM : Memref sig .tc .vmem S512x2048 .f32 := Memref.whole cc0_scratch8
abbrev resSrc (c : Dev nD) : Memref sig .tc .hbm S512x2048 .f32 :=
  (Memref.whole main_arg1 : Memref sig .tc .hbm S2048x2048 .f32).slice (Rect.unit (s := S2048x2048) (k0_off5 c) S512x2048.size (k0_off5_inb c)) (fun _ => rfl)

/-! ## The cells -/

abbrev barS : Sem sig := (SemArray.scalar (sig.barrier 0 rfl) : Sems sig S_).sem
abbrev barC (c : Dev nD) : GSem nD τ sig := ((c : Thread nD τ), .reg barS)
/-- Semaphore number `q`, and its cell on device `c`. -/
abbrev dn (q : ℕ) : DmaSem sig := Fin.ofNat 20 q
abbrev dC (c : Dev nD) (q : ℕ) : GSem nD τ sig := ((c : Thread nD τ), .dma (dn q))

/-- Where copy `i` goes. -/
def tgt (i : ℕ) (c : Dev nD) : Dev nD := match i with
  | 0 => q1 c | 1 => q2 c | 2 => q2 c | 3 => q1 c | 4 => q2 c | 5 => q1 c | 6 => q1 c | 7 => q2 c | _ => c

theorem tgt_tgt (i : ℕ) (c : Dev nD) : tgt i (tgt i c) = c := by
  match i with
  | 0 => exact q1_q1 c
  | 1 => exact q2_q2 c
  | 2 => exact q2_q2 c
  | 3 => exact q1_q1 c
  | 4 => exact q2_q2 c
  | 5 => exact q1_q1 c
  | 6 => exact q1_q1 c
  | 7 => exact q2_q2 c
  | _ + 8 => rfl

/-- The credit of a whole two-slab buffer, of one slab, and of the residual's block. -/
def NT : ℕ := (sendM false).view.dmaCredit
def NO : ℕ := (gotM false).view.dmaCredit
def NR : ℕ := resM.view.dmaCredit

/-- What semaphore `q` counts in its round. -/
def amt (q : ℕ) : ℕ := match q with
  | 3 => NT | 4 => NT | 5 => NO | 6 => NO | 7 => NO | 8 => NO | 9 => NT | 10 => NT | 11 => NR
  | 12 => NT | 13 => NT | 14 => NO | 15 => NO | 16 => NO | 17 => NO | 18 => NT | 19 => NT | _ => 1

/-! ## What the rounds hand over -/

/-- Raised by the half's first partner: that partner's buffers the first and the other half's second copy go to. -/
def barPay (h : Bool) (c : Dev nD) : sProp 𝕄 := iprop(some' (F := F) (near h c) (recvM h) ∗ some' (F := F) (near h c) (gotM (!h)))

/-- What the wait on semaphore `q` hands device `c`: at the start of a copy, its source; where it lands, what landed,
    and with some of the copies the sender's buffer that a later copy of `c` goes to. -/
def pay (q : ℕ) (c : Dev nD) : sProp 𝕄 := match q with
  | 3 => owns (c : Thread nD τ) (sendM false) fullShare (two (snd0 m false c) (snd1 m false c))
  | 4 => owns (c : Thread nD τ) (sendM true) fullShare (two (snd0 m true c) (snd1 m true c))
  | 5 => owns (c : Thread nD τ) (flat1 (accM false)) fullShare (flatten (acc1 m false c))
  | 6 => owns (c : Thread nD τ) (flat1 (accM true)) fullShare (flatten (acc1 m true c))
  | 7 => owns (c : Thread nD τ) (flat0 (sendM false)) fullShare (flatten (fins m false c))
  | 8 => owns (c : Thread nD τ) (flat0 (sendM true)) fullShare (flatten (fins m true c))
  | 9 => owns (c : Thread nD τ) (sendM false) (fullShare : PosShare TreeShare).right (two (fins m false c) (fins m false (far false c)))
  | 10 => owns (c : Thread nD τ) (sendM true) (fullShare : PosShare TreeShare).right (two (fins m true c) (fins m true (far true c)))
  | 11 => iprop(owns (c : Thread nD τ) resM fullShare (res m c) ∗ owns (c : Thread nD τ) (resSrc c) fullShare (res m c))
  | 12 => owns (c : Thread nD τ) (recvM false) fullShare (two (snd0 m false (near false c)) (snd1 m false (near false c)))
  | 13 => owns (c : Thread nD τ) (recvM true) fullShare (two (snd0 m true (near true c)) (snd1 m true (near true c)))
  | 14 => iprop(owns (c : Thread nD τ) (gotM false) fullShare (flatten (acc1 m false (far false c))) ∗ some' (F := F) (far false c) (slab1 (sendM false)))
  | 15 => iprop(owns (c : Thread nD τ) (gotM true) fullShare (flatten (acc1 m true (far true c))) ∗ some' (F := F) (far true c) (slab1 (sendM true))
      ∗ some' (F := F) (near false c) (recvM false))
  | 16 => iprop(owns (c : Thread nD τ) (flat1 (sendM false)) fullShare (flatten (fins m false (far false c))) ∗ some' (F := F) (near true c) (recvM true))
  | 17 => owns (c : Thread nD τ) (flat1 (sendM true)) fullShare (flatten (fins m true (far true c)))
  | 18 => owns (c : Thread nD τ) (recvM false) fullShare (two (fins m false (near false c)) (fins m false (far false (near false c))))
  | 19 => owns (c : Thread nD τ) (recvM true) fullShare (two (fins m true (near true c)) (fins m true (far true (near true c))))
  | _ => iprop(emp)

instance some_storable (c : Dev nD) {sp : Space} {s : Shape} {e : EltTy} (M : Memref sig .tc sp s e) :
    BI.Storable (upEmb : UEmb _ 𝕄) (some' (F := F) c M) := by unfold some'; infer_instance
instance barPay_storable (h : Bool) (c : Dev nD) : BI.Storable (upEmb : UEmb _ 𝕄) (barPay (F := F) h c) := by unfold barPay; infer_instance
instance pay_storable (q : ℕ) (c : Dev nD) : BI.Storable (upEmb : UEmb _ 𝕄) (pay m q c) := by
  unfold pay; split <;> infer_instance

theorem NT_pos : 0 < NT := View.dmaCredit_pos _ (by decide)
theorem NO_pos : 0 < NO := View.dmaCredit_pos _ (by decide)
theorem NR_pos : 0 < NR := View.dmaCredit_pos _ (by decide)
theorem amt_pos (q : ℕ) : 0 < amt q := by
  unfold amt; split <;> first | exact NT_pos | exact NO_pos | exact NR_pos | exact Nat.one_pos

/-- The duties of a semaphore's one round. -/
def dut (s : SemLoc sig) : Finset Bool := match s with | .reg _ => Finset.univ | .dma q => if 3 ≤ q.val then {false} else ∅

/-- One round per cell: the barrier's of two units, one from either partner; a copy's semaphore of the copy's credit. -/
def Rd : Rounds.Schedule (GSem nD τ sig) Bool 𝕄 where
  duties g r := if r = 0 ∧ g.1.2 = .tc then dut g.2 else ∅
  unitless _ := False
  amount g _ _ := match g.2 with | .reg _ => 1 | .dma q => amt q.val
  payload g _ d := match g.2 with | .reg _ => barPay d g.1.1 | .dma q => pay m q.val g.1.1
  amount_pos g _ _ _ := by
    rcases g with ⟨t, (q | q)⟩
    · exact Nat.one_pos
    · exact amt_pos _

instance Rd_storable (g : GSem nD τ sig) (r : ℕ) (d : Bool) : BI.Storable (upEmb : UEmb _ 𝕄) ((Rd m).payload g r d) := by
  rcases g with ⟨t, (q | q)⟩
  · exact barPay_storable d t.1
  · exact pay_storable m q.val t.1

theorem duties_bar (c : Dev nD) : (Rd m).duties (barC c) 0 = Finset.univ := by
  dsimp only [Rd]; rw [if_pos ⟨rfl, rfl⟩]; rfl
theorem duties_dma (c : Dev nD) (q : DmaSem sig) (h : 3 ≤ q.val) : (Rd m).duties ((c : Thread nD τ), .dma q) 0 = {false} := by
  dsimp only [Rd]; rw [if_pos ⟨rfl, rfl⟩]; exact if_pos h
theorem duties_later (g : GSem nD τ sig) : ∀ r, 1 ≤ r → (Rd m).duties g r = ∅ := fun r hr => by
  dsimp only [Rd]; exact if_neg fun h => by omega

theorem expect_bar (c : Dev nD) : (Rd m).expect (barC c) 0 = 2 := by
  unfold Schedule.expect Schedule.amountOf; rw [duties_bar]; rfl
theorem expect_dma (c : Dev nD) (q : DmaSem sig) (h : 3 ≤ q.val) : (Rd m).expect ((c : Thread nD τ), .dma q) 0 = amt q.val := by
  unfold Schedule.expect Schedule.amountOf; rw [duties_dma m c q h, Finset.sum_singleton]; rfl

theorem rest_bar (c : Dev nD) :
    bigSep ((Rd m).duties (barC c) 0 \ ∅) (fun d => (Rd m).payload (barC c) 0 d) = iprop(barPay (F := F) false c ∗ barPay (F := F) true c) := by
  rw [Finset.sdiff_empty, duties_bar, bigSep_univ_eq_bigSepL [false, true] (by decide) (by decide), bigSepL_cons_cons, bigSepL_singleton]
  rfl
theorem rest_dma (c : Dev nD) (q : DmaSem sig) (h : 3 ≤ q.val) :
    bigSep ((Rd m).duties ((c : Thread nD τ), .dma q) 0 \ ∅) (fun d => (Rd m).payload ((c : Thread nD τ), .dma q) 0 d) = pay m q.val c := by
  rw [Finset.sdiff_empty, duties_dma m c q h, bigSep_singleton]; rfl

/-! ## What is owed, and the levels -/

/-- What device `c` owes when its last `k` copies are still to come: their landings. -/
def owe (c : Dev nD) : ℕ → CellTallies nD τ sig Unit
  | 0 => 0
  | k + 1 => owe c k + tallyAt (dC (tgt (7 - k) c) (19 - k)) () (amt (19 - k))
/-- At launch it owes both partners' barriers one unit besides. -/
def O₁ (c : Dev nD) : CellTallies nD τ sig Unit := owe c 8 + tallyAt (barC (q2 c)) () 1
def O₀ (c : Dev nD) : CellTallies nD τ sig Unit := O₁ c + tallyAt (barC (q1 c)) () 1

/-- The order of the waits: nothing below the staging and the starts, then the barrier, then the landings in turn. -/
def lev (s : SemLoc sig) : ℕ := match s with | .reg _ => 1 | .dma q => if 12 ≤ q.val then q.val - 10 else 0
def L (g : GSem nD τ sig) : Finset Unit := if g.1.2 = .tc then {()} else ∅
def lv (g : GSem nD τ sig) (_ : Unit) : ℕ := lev g.2

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < tallyAt (Ix := Unit) g () n g' u) : g' = g := by
  rw [tallyAt_apply] at h
  by_contra hn
  rw [if_neg fun e => hn e.1] at h
  exact Nat.lt_irrefl 0 h

theorem owe_pos {c : Dev nD} {g : GSem nD τ sig} {u : Unit} : ∀ {k : ℕ}, k ≤ 8 → 0 < owe c k g u → g.1.2 = .tc ∧ 10 - k ≤ lev g.2
  | 0, _, h => absurd h (Nat.lt_irrefl 0)
  | k + 1, hk, h => by
    unfold owe at h
    rw [Pi.add_apply, Finsupp.add_apply] at h
    rcases Nat.eq_zero_or_pos (owe c k g u) with h0 | h0
    · rw [h0, Nat.zero_add] at h
      obtain rfl := tally_pos h
      refine ⟨rfl, ?_⟩
      have e : (dn (19 - k)).val = 19 - k := Nat.mod_eq_of_lt (by omega)
      show _ ≤ if 12 ≤ (dn (19 - k)).val then (dn (19 - k)).val - 10 else 0
      rw [e, if_pos (by omega)]; omega
    · exact ⟨(owe_pos (by omega) h0).1, le_trans (by omega) (owe_pos (by omega) h0).2⟩

theorem O₀_pos {c : Dev nD} {g : GSem nD τ sig} {u : Unit} (h : 0 < O₀ c g u) : g.1.2 = .tc ∧ 1 ≤ lev g.2 := by
  unfold O₀ O₁ at h
  rw [Pi.add_apply, Finsupp.add_apply, Pi.add_apply, Finsupp.add_apply] at h
  rcases Nat.eq_zero_or_pos (owe c 8 g u) with h0 | h0
  · rw [h0, Nat.zero_add] at h
    rcases Nat.eq_zero_or_pos (tallyAt (Ix := Unit) (barC (q2 c)) () 1 g u) with h1 | h1
    · rw [h1, Nat.zero_add] at h
      obtain rfl := tally_pos h
      exact ⟨rfl, Nat.le_refl 1⟩
    · obtain rfl := tally_pos h1
      exact ⟨rfl, Nat.le_refl 1⟩
  · exact ⟨(owe_pos (Nat.le_refl 8) h0).1, le_trans (by decide) (owe_pos (Nat.le_refl 8) h0).2⟩

/-- A device may wait on a semaphore below all it owes. -/
theorem mayWait_of (c : Dev nD) (sm : SemLoc sig) (O : CellTallies nD τ sig Unit) (h : ∀ g u, 0 < O g u → g.1.2 = .tc ∧ lev sm < lev g.2) :
    (levAts L lv : sProp 𝕄) ⊢ MayWait (c : Thread nD τ) sm () O :=
  MayOwe.of_cut (L := L) (lev := lv) (lev sm) (fun p hp => by rw [Finset.mem_singleton.mp hp, L_tc]; exact Finset.mem_singleton_self _)
    (fun g u hg => by rcases g with ⟨⟨d, p⟩, s⟩; obtain rfl : p = .tc := (h _ u hg).1; rw [L_tc]; exact Finset.mem_singleton_self _)
    (fun p hp => by rw [Finset.mem_singleton.mp hp]; exact Nat.le_refl _)
    (fun g u hg => (h g u hg).2)

theorem mayWait_owe (c : Dev nD) (sm : SemLoc sig) (k : ℕ) (hk : k ≤ 8) (h : lev sm < 10 - k) :
    (levAts L lv : sProp 𝕄) ⊢ MayWait (c : Thread nD τ) sm () (owe c k) :=
  mayWait_of c sm _ fun g u hg => ⟨(owe_pos hk hg).1, lt_of_lt_of_le h (owe_pos hk hg).2⟩

theorem mayWait_stage (c : Dev nD) (q : DmaSem sig) (hq : q.val < 12) (O : CellTallies nD τ sig Unit) (hO : O = O₀ c ∨ O = 0) :
    (levAts L lv : sProp 𝕄) ⊢ MayWait (c : Thread nD τ) (.dma q) () O := by
  have e : lev (.dma q) = 0 := if_neg (by omega)
  rcases hO with rfl | rfl
  · exact mayWait_of c _ _ fun g u hg => ⟨(O₀_pos hg).1, by rw [e]; exact (O₀_pos hg).2⟩
  · exact mayWait_of c _ _ fun g u hg => absurd hg (Nat.lt_irrefl 0)

end Cert.Exchange
-- ==== Proof.Steps.lean ====
/-
# One step of the exchange

The rules for a copy to a partner, the device's own copy, a wait and a signal, at the cells and rounds of the plan.
-/
module

public import proofs.«01_k».proof.Proof.Plan

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The cells, numbered: the barrier's first, then semaphores 3 to 19. -/
def kcell (p : Dev nD × Fin 18) : GSem nD τ sig := if p.2 = 0 then barC p.1 else dC p.1 (p.2.val + 2)

/-- Every cell's invariant, under the name it was allocated at, and that its round is reached. -/
def records (K : Dev nD × Fin 18 → ℕ) : sProp 𝕄 :=
  bigSep Finset.univ fun p => iprop(cellInv ER (Rd m) (K p) (kcell p) ∗ reached ER (kcell p) 0)

instance records_persistent (K : Dev nD × Fin 18 → ℕ) : BI.Persistent (records m K) := by unfold records; infer_instance

theorem records_at (K : Dev nD × Fin 18 → ℕ) (p : Dev nD × Fin 18) :
    records m K ⊢ iprop(cellInv ER (Rd m) (K p) (kcell p) ∗ reached ER (kcell p) 0) := bigSep_elim (Finset.mem_univ p)

/-- The name of the invariant of semaphore `q` of device `c`. -/
abbrev nm (K : Dev nD × Fin 18 → ℕ) (c : Dev nD) (q : ℕ) : ℕ := K (c, Fin.ofNat 18 (q - 2))

theorem records_bar (K : Dev nD × Fin 18 → ℕ) (c : Dev nD) :
    records m K ⊢ iprop(cellInv ER (Rd m) (K (c, 0)) (barC c) ∗ reached ER (barC c) 0) := records_at m K (c, 0)

theorem records_dma (K : Dev nD × Fin 18 → ℕ) (c : Dev nD) (q : ℕ) (h : 3 ≤ q) (h' : q < 20) :
    records m K ⊢ iprop(cellInv ER (Rd m) (nm K c q) (dC c q) ∗ reached ER (dC c q) 0) := by
  have e : kcell (c, Fin.ofNat 18 (q - 2)) = dC c q := by
    have v : (Fin.ofNat 18 (q - 2)).val = q - 2 := Nat.mod_eq_of_lt (by omega)
    unfold kcell
    rw [if_neg fun h0 => by have := congrArg Fin.val h0; rw [v] at this; change q - 2 = 0 at this; omega]
    show dC c ((Fin.ofNat 18 (q - 2)).val + 2) = _
    rw [v, show q - 2 + 2 = q by omega]
  have h := records_at m K (c, Fin.ofNat 18 (q - 2))
  rw [e] at h
  exact h

/-- Device `c` owes `O`, whatever waits it has recorded. -/
def ow (c : Dev nD) (O : CellTallies nD τ sig Unit) : sProp 𝕄 := iprop(∃ W, owes (c : Thread nD τ) O W)

/-- The right to count copy `i` at both its ends. -/
def tok (i qs qr : ℕ) (c : Dev nD) : sProp 𝕄 := iprop(dutyTok ER (dC c qs) 0 false ∗ dutyTok ER (dC (tgt i c) qr) 0 false)

/-- Where device `c` stands with semaphore `q`: its round open, or closed. -/
abbrev opened (c : Dev nD) (q : ℕ) : sProp 𝕄 := atPos ER (dC c q) 0 ∅ 0
abbrev closed (c : Dev nD) (q : ℕ) : sProp 𝕄 := atPos ER (dC c q) (0 + 1) ∅ 0
/-- The credit of semaphore `q`. -/
abbrev crd (c : Dev nD) (q : ℕ) : sProp 𝕄 := cred (tallyAt (dC c q) () (amt q))

theorem dn_val {q : ℕ} (h : q < 20) : (dn q).val = q := Nat.mod_eq_of_lt h

/-- A COPY to a partner: the source goes to the round where it starts, what lands, with whatever else is sent along, to
    the round where it lands. -/
theorem send (K : Dev nD × Fin 18 → ℕ) (c n : Dev nD) (i qs qr : ℕ) (hn : n = tgt i c) {e : EltTy} {s : Shape}
    {src : Memref sig .tc .vmem s e} {dst : Memref sig .tc .vmem s e} {sS sR : DmaSem sig} (hS : sS = dn qs) (hR : sR = dn qr)
    {q : PosShare TreeShare} (X : s.Idx → Elt F e) (E : sProp 𝕄) (h1 : 3 ≤ qs) (h2 : qs < 20) (h3 : 3 ≤ qr) (h4 : qr < 20)
    (hN : dst.view.dmaCredit = amt qs) (hN' : amt qr = amt qs)
    (hp1 : owns (c : Thread nD τ) src q X ⊢ pay m qs c)
    (hp2 : iprop(owns (tgt i c : Thread nD τ) dst fullShare X ∗ E) ⊢ pay m qr (tgt i c))
    {O₀ : CellTallies nD τ sig Unit} (O : CellTallies nD τ sig Unit) (hO : O₀ = O + tallyAt (dC (tgt i c) qr) () (amt qr))
    {hsc : (show Memref sig (Dev.tc n : Thread nD τ).2.kind .vmem s e from dst).view.ref.isScScratch = false}
    {hsrc : src.view.WordExact} {hdst : dst.view.WordExact}
    {hsem : DmaTarget.Typed .vmem (.dma sR) (.remote (Dev.tc n : Thread nD τ) dst (.dma sS) hsc)}
    {α : Type} {k : PUnit → Prog (TpuEff nD τ sig (Elt F) Λ₀ .tc) α} {Q : α → sProp 𝕄} :
    iprop(records m K ∗ owns (c : Thread nD τ) src q X ∗ some' (F := F) (tgt i c) dst ∗ E ∗ ow (F := F) c O₀ ∗ tok (F := F) i qs qr c)
      ⊢ iprop(((crd (F := F) c qs ∗ ow (F := F) c O) -∗ wp frame (wpE (defs₀ (F := F)) 𝒱₀ c none) Set.univ (k ⟨⟩) Q)
        -∗ wp frame (wpE (defs₀ (F := F)) 𝒱₀ c none) Set.univ
            (.op (.enqueueDma src (.remote (Dev.tc n) dst (.dma sS) hsc) (.dma sR) hsrc hdst hsem) k) Q) := by
  subst hn hS hR
  have hs1 (fs : src.view.ty.Contents (Elt F)) (hfs : src.view.read (Elt F) fs = X) :
      (src.view.loc (c : Thread nD τ) ↦[src.view.set]{q} fs : sProp 𝕄) ⊢ pay m qs c := by
    have h := owns_intro (Ix := Unit) (Name := ℕ) (U := UU) (Lvl := ℕ) (c : Thread nD τ) src q fs
    rw [hfs] at h; exact h.trans hp1
  have hs2 (fs : src.view.ty.Contents (Elt F)) (fd : dst.view.ty.Contents (Elt F)) (hfs : src.view.read (Elt F) fs = X) :
      iprop((dst.view.loc (tgt i c : Thread nD τ) ↦[dst.view.set]{fullShare} (dst.view.write (Elt F) fd (src.view.read (Elt F) fs) Finset.univ)) ∗ E)
        ⊢ pay m qr (tgt i c) := by
    have h := owns_intro (Ix := Unit) (Name := ℕ) (U := UU) (Lvl := ℕ) (tgt i c : Thread nD τ) dst fullShare (dst.view.write (Elt F) fd (src.view.read (Elt F) fs) Finset.univ)
    rw [View.read_write_univ, hfs] at h; rw [hfs]; exact (sep_mono_left h).trans hp2
  unfold some' ow tok owns
  iintro ⟨#Hrec, ⟨%fs, %hfs, Hs⟩, ⟨%Y, %fd, %hfd, Hd⟩, HE, ⟨%W, HO⟩, Ht1, Ht2⟩ Hk
  ihave Hc1 := (records_dma m K c qs h1 h2) $$ Hrec
  ihave Hc2 := (records_dma m K (tgt i c) qr h3 h4) $$ Hrec
  icases Hc1 with ⟨#Hi1, #Hr1⟩
  icases Hc2 with ⟨#Hi2, #Hr2⟩
  iapply (Rounds.wp_send_pointsTo_with 𝒱₀ ER (Rd m) (c : Thread nD τ) none (c' := (Dev.tc (tgt i c) : Thread nD τ)) (src := src) (dst := dst)
      (κ₁ := nm K c qs) (κ₂ := nm K (tgt i c) qr) (r₁ := 0) (r₂ := 0) (d₁ := false) (d₂ := false) (fd := fd) (fs := fs) (q := q) (F := E)
      (by rw [duties_dma m c (dn qs) (by rw [dn_val h2]; exact h1)]; exact Finset.mem_singleton_self _)
      (by rw [duties_dma m (tgt i c) (dn qr) (by rw [dn_val h4]; exact h3)]; exact Finset.mem_singleton_self _) () ()
      (amt qs) (show dst.view.amount (.dma (dn qr)) = amt qs from hN) (by show amt (dn qs).val = _; rw [dn_val h2]) (by show amt (dn qr).val = _; rw [dn_val h4]; exact hN') (O₀ := O₀) O (by rw [← hN']; exact hO)
      (by show _ ⊢ pay m (dn qs).val c; rw [dn_val h2]; exact hs1 fs hfs)
      (by show _ ⊢ pay m (dn qr).val (tgt i c); rw [dn_val h4]; exact hs2 fs fd hfs)) $$ [Hs Hd HE HO Ht1 Ht2]
  · isplitr; · iexact Hi1
    isplitr; · iexact Hi2
    isplitl [Hs]; · iexact Hs
    isplitl [Hd HE]
    · isplitl [Hd]; · iexact Hd
      iexact HE
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- A WAIT on one of the semaphores for the whole of its round. -/
theorem wait (K : Dev nD × Fin 18 → ℕ) (c : Dev nD) (q : ℕ) (h1 : 3 ≤ q) (h2 : q < 20) (k₀ : ℕ) (hk : k₀ ≤ 8) (hl : lev (.dma (dn q)) < 10 - k₀)
    {sp sp' : Space} {s s' : Shape} {e e' : EltTy} {src : Memref sig .tc sp' s' e'} {dst : Memref sig .tc sp s e} {sem : DmaSem sig} (hs : sem = dn q)
    (hN : dst.view.dmaCredit = amt q) {hsrc : src.view.WordExact} {hdst : dst.view.WordExact}
    {α : Type} {k : PUnit → Prog (TpuEff nD τ sig (Elt F) Λ₀ .tc) α} {Q : α → sProp 𝕄} :
    iprop(records m K ∗ levAts L lv ∗ crd (F := F) c q ∗ ow (F := F) c (owe c k₀) ∗ opened (F := F) c q)
      ⊢ iprop(((ow (F := F) c (owe c k₀) ∗ closed (F := F) c q ∗ pay m q c) -∗ wp frame (wpE (defs₀ (F := F)) 𝒱₀ c none) Set.univ (k ⟨⟩) Q)
        -∗ wp frame (wpE (defs₀ (F := F)) 𝒱₀ c none) Set.univ (.op (.waitDma2 sem src dst hsrc hdst) k) Q) := by
  subst hs
  unfold ow
  iintro ⟨#Hrec, #Hlev, Hc, ⟨%W, HO⟩, Hat⟩ Hk
  ihave Hc1 := (records_dma m K c q h1 h2) $$ Hrec
  icases Hc1 with ⟨#Hi1, #Hr1⟩
  iapply (Rounds.wp_wait_rest_token 𝒱₀ ER (Rd m) (c : Thread nD τ) none (κ := nm K c q)
      (wpE_waitDma2_eq 𝒱₀ (c : Thread nD τ) none Set.univ) (Set.mem_univ _) () (O := owe c k₀) (W := W) (R := 0) (m := 0) (T := ∅)
      (by rw [Nat.zero_add, expect_dma m c (dn q) (by rw [dn_val h2]; exact h1), dn_val h2]; exact hN)) $$ [Hc HO Hat]
  · isplitr; · iexact Hi1
    isplitl [Hc]; · rw [hN]; iexact Hc
    isplitl [HO]; · iexact HO
    isplitr; · iapply (mayWait_owe c (.dma (dn q)) k₀ hk hl); iexact Hlev
    iexact Hat
  iintro ⟨HO, Hat, -, Hpay⟩
  ihave Hp := (Entails.of_eq (rest_dma m c (dn q) (by rw [dn_val h2]; exact h1))) $$ Hpay
  iapply Hk
  isplitl [HO]; · iexists _; iexact HO
  isplitl [Hat]; · iexact Hat
  rw [dn_val h2]
  iexact Hp

/-- The device's own COPY of its block of the residual. -/
theorem copy_res (K : Dev nD × Fin 18 → ℕ) (c : Dev nD) {sem : DmaSem sig} (hs : sem = dn 11)
    {hsrc : (resSrc c).view.WordExact} {hdst : resM.view.WordExact} {hsem : DmaTarget.Typed (nD := nD) (τ := τ) (p := .tc) .hbm (.dma sem) (.here resM)}
    {α : Type} {k : PUnit → Prog (TpuEff nD τ sig (Elt F) Λ₀ .tc) α} {Q : α → sProp 𝕄} :
    iprop(records m K ∗ owns (c : Thread nD τ) (resSrc c) fullShare (res m c) ∗ some' (F := F) c resM ∗ dutyTok ER (dC c 11) 0 false)
      ⊢ iprop((crd (F := F) c 11 -∗ wp frame (wpE (defs₀ (F := F)) 𝒱₀ c none) Set.univ (k ⟨⟩) Q)
        -∗ wp frame (wpE (defs₀ (F := F)) 𝒱₀ c none) Set.univ (.op (.enqueueDma (resSrc c) (.here resM) (.dma sem) hsrc hdst hsem) k) Q) := by
  subst hs
  unfold some' owns
  iintro ⟨#Hrec, ⟨%fs, %hfs, Hs⟩, ⟨%Y, %fd, %hfd, Hd⟩, Ht⟩ Hk
  ihave Hc1 := (records_dma m K c 11 (by decide) (by decide)) $$ Hrec
  icases Hc1 with ⟨#Hi1, #Hr1⟩
  iapply (Rounds.wp_copy_pointsTo 𝒱₀ ER (Rd m) (c : Thread nD τ) none (src := resSrc c) (dst := resM) (κ := nm K c 11) (r := 0) (d := false) (fd := fd) (fs := fs) (q := fullShare)
      (by rw [duties_dma m c (dn 11) (by decide)]; exact Finset.mem_singleton_self _) () (amt 11) rfl rfl
      (by
        show _ ⊢ pay m 11 c
        show _ ⊢ iprop(owns (c : Thread nD τ) resM fullShare (res m c) ∗ owns (c : Thread nD τ) (resSrc c) fullShare (res m c))
        unfold owns
        iintro ⟨Hd, Hs⟩
        isplitl [Hd]
        · iexists _; isplitr
          swap; · iexact Hd
          ipureintro
          rw [View.read_write_univ]; exact hfs
        · iexists fs; isplitr
          · ipureintro; exact hfs
          iexact Hs)) $$ [Hs Hd Ht]
  · isplitr; · iexact Hi1
    isplitl [Hs]; · iexact Hs
    isplitl [Hd]; · iexact Hd
    isplitl [Ht]; · iexact Ht
    iexact Hr1
  iexact Hk

/-- A SIGNAL to a partner's barrier, handing it the two buffers of the device's own it will copy to. -/
theorem signal (K : Dev nD × Fin 18 → ℕ) (c n : Dev nD) (h : Bool) (hn : n = near h c) (O : CellTallies nD τ sig Unit)
    {O₀ : CellTallies nD τ sig Unit} (hO : O₀ = O + tallyAt (barC (near h c)) () 1)
    {α : Type} {k : PUnit → Prog (TpuEff nD τ sig (Elt F) Λ₀ .tc) α} {Q : α → sProp 𝕄} :
    iprop(records m K ∗ ow (F := F) c O₀ ∗ dutyTok ER (barC (near h c)) 0 h ∗ some' (F := F) c (recvM h) ∗ some' (F := F) c (gotM (!h)))
      ⊢ iprop((ow (F := F) c O -∗ wp frame (wpE (defs₀ (F := F)) 𝒱₀ c none) Set.univ (k ⟨⟩) Q)
        -∗ wp frame (wpE (defs₀ (F := F)) 𝒱₀ c none) Set.univ (.op (.semSignal (n : Thread nD τ) barS (1#32).toInt) k) Q) := by
  show _ ⊢ iprop(_ -∗ wp frame (wpE (defs₀ (F := F)) 𝒱₀ c none) Set.univ (.op (.semSignal (n : Thread nD τ) barS ((1 : ℕ) : ℤ)) k) Q)
  subst hn
  unfold ow
  iintro ⟨#Hrec, ⟨%W, HO⟩, Ht, H1, H2⟩ Hk
  have hpay : iprop(some' (F := F) c (recvM h) ∗ some' (F := F) c (gotM (!h))) ⊢ (Rd m).payload (barC (near h c)) 0 h := by
    show _ ⊢ barPay (F := F) h (near h c)
    unfold barPay
    rw [near_near]
  ihave Hc1 := (records_bar m K (near h c)) $$ Hrec
  icases Hc1 with ⟨#Hi1, #Hr1⟩
  iapply (Rounds.wp_signal 𝒱₀ ER (Rd m) (c : Thread nD τ) none (dst := (near h c : Thread nD τ)) (κ := K (near h c, 0))
      (d := h) (k' := 1) (by rw [duties_bar]; exact Finset.mem_univ _) rfl () O hO) $$ [HO Ht H1 H2]
  · isplitr; · iexact Hi1
    isplitl [HO]; · iexact HO
    isplitl [Ht]; · iexact Ht
    isplitl [H1 H2]
    · iapply hpay
      isplitl [H1]; · iexact H1
      iexact H2
    iexact Hr1
  iintro HO
  iapply Hk
  iexists W; iexact HO

/-- The WAIT on the barrier for both partners. -/
theorem wait_bar (K : Dev nD × Fin 18 → ℕ) (c : Dev nD) {α : Type} {k : PUnit → Prog (TpuEff nD τ sig (Elt F) Λ₀ .tc) α} {Q : α → sProp 𝕄} :
    iprop(records m K ∗ levAts L lv ∗ cred (tallyAt (barC c) () 2) ∗ ow (F := F) c (owe c 8) ∗ atPos ER (barC c) 0 ∅ 0)
      ⊢ iprop(((ow (F := F) c (owe c 8) ∗ atPos ER (barC c) (0 + 1) ∅ 0 ∗ barPay (F := F) false c ∗ barPay (F := F) true c)
          -∗ wp frame (wpE (defs₀ (F := F)) 𝒱₀ c none) Set.univ (k ⟨⟩) Q)
        -∗ wp frame (wpE (defs₀ (F := F)) 𝒱₀ c none) Set.univ (.op (.semWait barS (2#32).toInt) k) Q) := by
  show _ ⊢ iprop(_ -∗ wp frame (wpE (defs₀ (F := F)) 𝒱₀ c none) Set.univ (.op (.semWait barS ((2 : ℕ) : ℤ)) k) Q)
  unfold ow
  iintro ⟨#Hrec, #Hlev, Hc, ⟨%W, HO⟩, Hat⟩ Hk
  ihave Hc1 := (records_bar m K c) $$ Hrec
  icases Hc1 with ⟨#Hi1, #Hr1⟩
  iapply (Rounds.wp_wait_rest_token 𝒱₀ ER (Rd m) (c : Thread nD τ) none (κ := K (c, 0))
      (wpE_semWait_eq 𝒱₀ (c : Thread nD τ) none Set.univ) (Set.mem_univ _) () (O := owe c 8) (W := W) (R := 0) (m := 0) (T := ∅)
      (by rw [expect_bar])) $$ [Hc HO Hat]
  · isplitr; · iexact Hi1
    isplitl [Hc]; · iexact Hc
    isplitl [HO]; · iexact HO
    isplitr; · iapply (mayWait_owe c (.reg barS) 8 (by decide) (by decide)); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

end Cert.Exchange
-- ==== Proof.Tools.lean ====
/-
# The kernel's operands, and the loads and stores of its parts

The printed body takes its buffers and semaphores as arguments; here they are the launch's. Which semaphore, which
device and which rows each printed expression names is decided over the four devices.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A printed part at the launch's buffers and semaphores. -/
abbrev onBufs {T : Type 1}
    (f : ∀ (arg0 : Memref sig .tc .vmem S1x2048x2048 .f32) (harg0 : arg0.IsWhole) (arg1 : Memref sig .tc .hbm S2048x2048 .f32) (harg1 : arg1.IsWhole) (arg2 : Memref sig .tc .vmem S2048 .f32) (harg2 : arg2.IsWhole) (arg3 : Memref sig .tc .vmem S2048x2048 .f32) (harg3 : arg3.IsWhole) (arg4 : Memref sig .tc .vmem S2x256x2048 .bf16) (harg4 : arg4.IsWhole) (arg5 : Memref sig .tc .vmem S2x256x2048 .bf16) (harg5 : arg5.IsWhole) (arg6 : Memref sig .tc .vmem S2x256x2048 .bf16) (harg6 : arg6.IsWhole) (arg7 : Memref sig .tc .vmem S256x2048 .bf16) (harg7 : arg7.IsWhole) (arg8 : Memref sig .tc .vmem S2x256x2048 .bf16) (harg8 : arg8.IsWhole) (arg9 : Memref sig .tc .vmem S2x256x2048 .bf16) (harg9 : arg9.IsWhole) (arg10 : Memref sig .tc .vmem S2x256x2048 .bf16) (harg10 : arg10.IsWhole) (arg11 : Memref sig .tc .vmem S256x2048 .bf16) (harg11 : arg11.IsWhole) (arg12 : Memref sig .tc .vmem S512x2048 .f32) (harg12 : arg12.IsWhole) (arg13 : DmaSems sig S9) (arg14 : DmaSems sig S8), T) : T :=
  f (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10

/-- The weakest precondition of a program on a device's core, under the launch's (empty) specifications. -/
abbrev Run (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-! ## Semaphores, devices and rows named by the printed expressions -/

theorem s_sem0 : ((cc0_scratch9.slice (Rect.unit (s := S9) ![0] S1.size inb_S9_S1_0)).squeeze S_ squeezes_S1_S_).sem = dn 3 := rfl
theorem s_sem1 : ((cc0_scratch9.slice (Rect.unit (s := S9) ![1] S1.size inb_S9_S1_1)).squeeze S_ squeezes_S1_S_).sem = dn 4 := rfl
theorem s_sem2 : ((cc0_scratch9.slice (Rect.unit (s := S9) ![2] S1.size inb_S9_S1_2)).squeeze S_ squeezes_S1_S_).sem = dn 5 := rfl
theorem s_sem3 : ((cc0_scratch9.slice (Rect.unit (s := S9) ![3] S1.size inb_S9_S1_3)).squeeze S_ squeezes_S1_S_).sem = dn 6 := rfl
theorem s_sem4 : ((cc0_scratch9.slice (Rect.unit (s := S9) ![4] S1.size inb_S9_S1_4)).squeeze S_ squeezes_S1_S_).sem = dn 7 := rfl
theorem s_sem5 : ((cc0_scratch9.slice (Rect.unit (s := S9) ![5] S1.size inb_S9_S1_5)).squeeze S_ squeezes_S1_S_).sem = dn 8 := rfl
theorem s_sem6 : ((cc0_scratch9.slice (Rect.unit (s := S9) ![6] S1.size inb_S9_S1_6)).squeeze S_ squeezes_S1_S_).sem = dn 9 := rfl
theorem s_sem7 : ((cc0_scratch9.slice (Rect.unit (s := S9) ![7] S1.size inb_S9_S1_7)).squeeze S_ squeezes_S1_S_).sem = dn 10 := rfl
theorem s_sem8 : ((cc0_scratch9.slice (Rect.unit (s := S9) ![8] S1.size inb_S9_S1_8)).squeeze S_ squeezes_S1_S_).sem = dn 11 := rfl
theorem r_sem0 : ((cc0_scratch10.slice (Rect.unit (s := S8) ![0] S1.size inb_S8_S1_0)).squeeze S_ squeezes_S1_S_).sem = dn 12 := rfl
theorem r_sem1 : ((cc0_scratch10.slice (Rect.unit (s := S8) ![1] S1.size inb_S8_S1_1)).squeeze S_ squeezes_S1_S_).sem = dn 13 := rfl
theorem r_sem2 : ((cc0_scratch10.slice (Rect.unit (s := S8) ![2] S1.size inb_S8_S1_2)).squeeze S_ squeezes_S1_S_).sem = dn 14 := rfl
theorem r_sem3 : ((cc0_scratch10.slice (Rect.unit (s := S8) ![3] S1.size inb_S8_S1_3)).squeeze S_ squeezes_S1_S_).sem = dn 15 := rfl
theorem r_sem4 : ((cc0_scratch10.slice (Rect.unit (s := S8) ![4] S1.size inb_S8_S1_4)).squeeze S_ squeezes_S1_S_).sem = dn 16 := rfl
theorem r_sem5 : ((cc0_scratch10.slice (Rect.unit (s := S8) ![5] S1.size inb_S8_S1_5)).squeeze S_ squeezes_S1_S_).sem = dn 17 := rfl
theorem r_sem6 : ((cc0_scratch10.slice (Rect.unit (s := S8) ![6] S1.size inb_S8_S1_6)).squeeze S_ squeezes_S1_S_).sem = dn 18 := rfl
theorem r_sem7 : ((cc0_scratch10.slice (Rect.unit (s := S8) ![7] S1.size inb_S8_S1_7)).squeeze S_ squeezes_S1_S_).sem = dn 19 := rfl

theorem dev1_eq (c : Dev nD) : (⟨k0_dev1 c, k0_dev1_lt c⟩ : Dev nD) = q1 c := by revert c; decide +kernel
theorem dev2_eq (c : Dev nD) : (⟨k0_dev2 c, k0_dev2_lt c⟩ : Dev nD) = q2 c := by revert c; decide +kernel
theorem dev3_eq (c : Dev nD) : (⟨k0_dev3 c, k0_dev3_lt c⟩ : Dev nD) = q1 c := by revert c; decide +kernel
theorem dev4_eq (c : Dev nD) : (⟨k0_dev4 c, k0_dev4_lt c⟩ : Dev nD) = q2 c := by revert c; decide +kernel
theorem dev5_eq (c : Dev nD) : (⟨k0_dev5 c, k0_dev5_lt c⟩ : Dev nD) = q2 c := by revert c; decide +kernel
theorem dev6_eq (c : Dev nD) : (⟨k0_dev6 c, k0_dev6_lt c⟩ : Dev nD) = q1 c := by revert c; decide +kernel
theorem dev7_eq (c : Dev nD) : (⟨k0_dev7 c, k0_dev7_lt c⟩ : Dev nD) = q2 c := by revert c; decide +kernel
theorem dev8_eq (c : Dev nD) : (⟨k0_dev8 c, k0_dev8_lt c⟩ : Dev nD) = q1 c := by revert c; decide +kernel
theorem dev9_eq (c : Dev nD) : (⟨k0_dev9 c, k0_dev9_lt c⟩ : Dev nD) = q1 c := by revert c; decide +kernel
theorem dev10_eq (c : Dev nD) : (⟨k0_dev10 c, k0_dev10_lt c⟩ : Dev nD) = q2 c := by revert c; decide +kernel

theorem off1_eq (c : Dev nD) : k0_off1 c = ![0, row0 false (q1 c), 0] := by revert c; decide +kernel
theorem off2_eq (c : Dev nD) : k0_off2 c = ![0, row0 false (q2 (q1 c)), 0] := by revert c; decide +kernel
theorem off3_eq (c : Dev nD) : k0_off3 c = ![0, row0 true (q2 c), 0] := by revert c; decide +kernel
theorem off4_eq (c : Dev nD) : k0_off4 c = ![0, row0 true (q1 (q2 c)), 0] := by revert c; decide +kernel
theorem off6_eq (c : Dev nD) : k0_off6 c = ![0, row0 false c, 0] := by revert c; decide +kernel
theorem off7_eq (c : Dev nD) : k0_off7 c = ![0, row0 false (q2 c), 0] := by revert c; decide +kernel
theorem off8_eq (c : Dev nD) : k0_off8 c = ![0, row0 true c, 0] := by revert c; decide +kernel
theorem off9_eq (c : Dev nD) : k0_off9 c = ![0, row0 true (q1 c), 0] := by revert c; decide +kernel
theorem off10_eq (c : Dev nD) : k0_off10 c = ![row0 false c, 0] := by revert c; decide +kernel
theorem off11_eq (c : Dev nD) : k0_off11 c = ![row0 true c, 0] := by revert c; decide +kernel
theorem off12_eq (c : Dev nD) : k0_off12 c = ![row0 false (q2 c), 0] := by revert c; decide +kernel
theorem off13_eq (c : Dev nD) : k0_off13 c = ![row0 true (q1 c), 0] := by revert c; decide +kernel
theorem off14_eq (c : Dev nD) : k0_off14 c = ![row0 false (q1 c), 0] := by revert c; decide +kernel
theorem off15_eq (c : Dev nD) : k0_off15 c = ![row0 false (q2 (q1 c)), 0] := by revert c; decide +kernel
theorem off16_eq (c : Dev nD) : k0_off16 c = ![row0 true (q2 c), 0] := by revert c; decide +kernel
theorem off17_eq (c : Dev nD) : k0_off17 c = ![row0 true (q1 (q2 c)), 0] := by revert c; decide +kernel

/-! ## Loads and stores -/

/-- The staged inputs and the staged result. -/
abbrev xM : Memref sig .tc .vmem S1x2048x2048 .f32 := Memref.whole cc0_stg0_0
abbrev gM : Memref sig .tc .vmem S2048 .f32 := Memref.whole cc0_stg1_0
abbrev oM : Memref sig .tc .vmem S2048x2048 .f32 := Memref.whole cc0_stg2_0

section Rules

variable (c : Dev nD)

/-- A load of a block's rows of the input. -/
theorem load_x (h : Bool) (k₀ : Dev nD) {off : Fin 3 → ℕ} (e : off = ![0, row0 h k₀, 0])
    (inb : ∀ a, off a + S1x256x2048.size a ≤ S1x2048x2048.size a) {hl : xM.view.LoadsAt (Rect.unit (s := S1x2048x2048) off S1x256x2048.size inb).toLoadRect}
    {X : Vec F S1x2048x2048 .f32} {α : Type} {k : Vec F S1x256x2048 .f32 → Prog (TpuEff nD τ sig (Elt F) Λ₀ .tc) α} {Q : α → sProp 𝕄} :
    (owns (c : Thread nD τ) xM fullShare X : sProp 𝕄)
      ⊢ iprop((owns (c : Thread nD τ) xM fullShare X -∗ wp frame (wpE (defs₀ (F := F)) 𝒱₀ c none) Set.univ (k (rowsOf X h k₀)) Q)
        -∗ wp frame (wpE (defs₀ (F := F)) 𝒱₀ c none) Set.univ
            (.op (.load xM (Rect.unit (s := S1x2048x2048) off S1x256x2048.size inb).toLoadRect hl) k) Q) := by
  have h' := load_view (F := F) c xM (Rect.unit (s := S1x2048x2048) off S1x256x2048.size inb).toLoadRect (hl := hl) (q := fullShare) (X := X) (k := k) (Q := Q)
  rw [rows_load X h k₀ e inb] at h'
  exact h'

/-- A load of the whole of a buffer. -/
theorem load_all {sp : CoreSpace} {s : Shape} {e : EltTy} (M : Memref sig .tc sp s e) {off : Fin s.rank → ℕ} (e₀ : off = fun _ => 0)
    (inb : ∀ a, off a + s.size a ≤ s.size a) {hl : M.view.LoadsAt (Rect.unit off s.size inb).toLoadRect}
    {X : s.Idx → Elt F e} {α : Type} {k : (s.Idx → Elt F e) → Prog (TpuEff nD τ sig (Elt F) Λ₀ .tc) α} {Q : α → sProp 𝕄} :
    (owns (c : Thread nD τ) M fullShare X : sProp 𝕄)
      ⊢ iprop((owns (c : Thread nD τ) M fullShare X -∗ wp frame (wpE (defs₀ (F := F)) 𝒱₀ c none) Set.univ (k X) Q)
        -∗ wp frame (wpE (defs₀ (F := F)) 𝒱₀ c none) Set.univ (.op (.load M (Rect.unit off s.size inb).toLoadRect hl) k) Q) := by
  subst e₀
  have h : (fun j => X ((Rect.unit (fun _ => 0) s.size inb).toLoadRect.idx j)) = X := by
    funext j
    congr 1
    funext a
    exact Fin.ext (by show 0 + 1 * (j a).val = (j a).val; omega)
  have h' := load_view (F := F) c M (Rect.unit (fun _ => 0) s.size inb).toLoadRect (hl := hl) (q := fullShare) (X := X) (k := k) (Q := Q)
  rw [h] at h'
  exact h'

/-- A store to a slab, after a load of it that is not used. -/
theorem over_slab (M : Two) (r : Rect S2x256x2048) (hr : ∀ a, r.stride a = 1)
    {hl : M.view.LoadsAt r.toLoadRect} {w : Vec F r.shape .bf16} {hx : (M.access r).Stores Finset.univ}
    {hm : (Finset.univ : Finset r.shape.Idx) = Finset.univ ∨ ∀ a, r.stride a = 1} {α : Type}
    {k : PUnit → Prog (TpuEff nD τ sig (Elt F) Λ₀ .tc) α} {Q : α → sProp 𝕄} :
    (some' (F := F) c (M.slice r hr))
      ⊢ iprop((owns (c : Thread nD τ) (M.slice r hr) fullShare w -∗ wp frame (wpE (defs₀ (F := F)) 𝒱₀ c none) Set.univ (k ⟨⟩) Q)
        -∗ wp frame (wpE (defs₀ (F := F)) 𝒱₀ c none) Set.univ
            (.op (.load M r.toLoadRect hl) fun _ => .op (.store M r w Finset.univ hx hm) k) Q) := by
  iintro H Hk
  unfold some'
  icases H with ⟨%X, H⟩
  iapply (load_slice c M r hr) $$ H
  iintro H
  ihave H' := (some_intro c (M.slice r hr) X) $$ H
  iapply (store_slice c M r hr) $$ H'
  iexact Hk

/-- A store to a block's rows of the result, after a load of them that is not used. -/
theorem over_out (h : Bool) (k₀ : Dev nD) {off : Fin 2 → ℕ} (e : off = ![row0 h k₀, 0])
    (inb : ∀ a, off a + S256x2048.size a ≤ S2048x2048.size a) {hl : oM.view.LoadsAt (Rect.unit (s := S2048x2048) off S256x2048.size inb).toLoadRect}
    {w : Vec F S256x2048 .f32} {hx : (oM.access (Rect.unit (s := S2048x2048) off S256x2048.size inb)).Stores Finset.univ}
    {hm : (Finset.univ : Finset (Rect.unit (s := S2048x2048) off S256x2048.size inb).shape.Idx) = Finset.univ ∨ ∀ a, (Rect.unit (s := S2048x2048) off S256x2048.size inb).stride a = 1}
    {X : Vec F S2048x2048 .f32} {α : Type} {k : PUnit → Prog (TpuEff nD τ sig (Elt F) Λ₀ .tc) α} {Q : α → sProp 𝕄} :
    (owns (c : Thread nD τ) oM fullShare X : sProp 𝕄)
      ⊢ iprop((owns (c : Thread nD τ) oM fullShare (put (orect h k₀) w X) -∗ wp frame (wpE (defs₀ (F := F)) 𝒱₀ c none) Set.univ (k ⟨⟩) Q)
        -∗ wp frame (wpE (defs₀ (F := F)) 𝒱₀ c none) Set.univ
            (.op (.load oM (Rect.unit (s := S2048x2048) off S256x2048.size inb).toLoadRect hl) fun _ =>
              .op (.store oM (Rect.unit (s := S2048x2048) off S256x2048.size inb) w Finset.univ hx hm) k) Q) := by
  subst e
  iintro H Hk
  iapply (load_view (F := F) c oM _) $$ H
  iintro H
  iapply (store_view (F := F) c oM _) $$ H
  iexact Hk

/-- Loads of the two halves of the block of the residual. -/
theorem load_res0 {hl : resM.view.LoadsAt (Rect.unit (s := S512x2048) ![0, 0] S256x2048.size inb_S512x2048_S256x2048_0_0).toLoadRect}
    {α : Type} {k : Vec F S256x2048 .f32 → Prog (TpuEff nD τ sig (Elt F) Λ₀ .tc) α} {Q : α → sProp 𝕄} :
    (owns (c : Thread nD τ) resM fullShare (res m c) : sProp 𝕄)
      ⊢ iprop((owns (c : Thread nD τ) resM fullShare (res m c) -∗ wp frame (wpE (defs₀ (F := F)) 𝒱₀ (c : Thread nD τ) none) Set.univ (k (resH m false c)) Q)
        -∗ wp frame (wpE (defs₀ (F := F)) 𝒱₀ (c : Thread nD τ) none) Set.univ (.op (.load resM (Rect.unit (s := S512x2048) ![0, 0] S256x2048.size inb_S512x2048_S256x2048_0_0).toLoadRect hl) k) Q) :=
  load_view (F := F) c resM (Rect.unit (s := S512x2048) ![0, 0] S256x2048.size inb_S512x2048_S256x2048_0_0).toLoadRect (hl := hl) (q := fullShare)
    (X := res m c) (k := k) (Q := Q)

theorem load_res1 {hl : resM.view.LoadsAt (Rect.unit (s := S512x2048) ![256, 0] S256x2048.size inb_S512x2048_S256x2048_256_0).toLoadRect}
    {α : Type} {k : Vec F S256x2048 .f32 → Prog (TpuEff nD τ sig (Elt F) Λ₀ .tc) α} {Q : α → sProp 𝕄} :
    (owns (c : Thread nD τ) resM fullShare (res m c) : sProp 𝕄)
      ⊢ iprop((owns (c : Thread nD τ) resM fullShare (res m c) -∗ wp frame (wpE (defs₀ (F := F)) 𝒱₀ (c : Thread nD τ) none) Set.univ (k (resH m true c)) Q)
        -∗ wp frame (wpE (defs₀ (F := F)) 𝒱₀ (c : Thread nD τ) none) Set.univ (.op (.load resM (Rect.unit (s := S512x2048) ![256, 0] S256x2048.size inb_S512x2048_S256x2048_256_0).toLoadRect hl) k) Q) :=
  load_view (F := F) c resM (Rect.unit (s := S512x2048) ![256, 0] S256x2048.size inb_S512x2048_S256x2048_256_0).toLoadRect (hl := hl) (q := fullShare)
    (X := res m c) (k := k) (Q := Q)

/-- The offset of a load of a whole buffer. -/
theorem zero1 : (![0] : Fin 1 → ℕ) = fun _ => 0 := by decide
theorem zero2 : (![0, 0] : Fin 2 → ℕ) = fun _ => 0 := by decide

end Rules

end Cert.Exchange
-- ==== Proof.PartsA.lean ====
/-
# The first parts of the kernel: the barrier, the two first exchanges, the residual's copy and the accumulators
-/
module

public import proofs.«01_k».proof.Proof.Tools

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 18 → ℕ) (c : Dev nD)

/-- What each copy leaves at its target is what the target's wait hands over. -/
theorem land0 (c : Dev nD) : iprop(owns (tgt 0 c : Thread nD τ) (recvM false) fullShare (two (snd0 m false c) (snd1 m false c)) ∗ emp) ⊢ pay m 12 (tgt 0 c) := by
  have e : near false (tgt 0 c) = c := q1_q1 c
  unfold pay
  rw [e]
  iintro ⟨H, -⟩
  iexact H

theorem land1 (c : Dev nD) : iprop(owns (tgt 1 c : Thread nD τ) (recvM true) fullShare (two (snd0 m true c) (snd1 m true c)) ∗ emp) ⊢ pay m 13 (tgt 1 c) := by
  have e : near true (tgt 1 c) = c := q2_q2 c
  unfold pay
  rw [e]
  iintro ⟨H, -⟩
  iexact H

/-- Part 1: tell both partners that this device's receive buffers are theirs to write, wait for both, and fill the first
half's send buffer. -/
theorem part1_run  {Q : _ → sProp 𝕄} :
    iprop(records m K
        ∗ levAts L lv
        ∗ owns (c : Thread nD τ) (xM) fullShare (xin m c)
        ∗ ow (F := F) c (O₀ c)
        ∗ dutyTok ER (barC (near false c)) 0 false
        ∗ dutyTok ER (barC (near true c)) 0 true
        ∗ some' (F := F) (c) (recvM false)
        ∗ some' (F := F) (c) (gotM true)
        ∗ some' (F := F) (c) (recvM true)
        ∗ some' (F := F) (c) (gotM false)
        ∗ some' (F := F) (c) (sendM false)
        ∗ cred (tallyAt (barC c) () 2)
        ∗ atPos ER (barC c) 0 ∅ 0)
      ⊢ iprop((∀ v2 v3 v4, (owns (c : Thread nD τ) (xM) fullShare (xin m c)
          ∗ ow (F := F) c (owe c 8)
          ∗ atPos ER (barC c) (0 + 1) ∅ 0
          ∗ barPay (F := F) false c
          ∗ barPay (F := F) true c
          ∗ owns (c : Thread nD τ) (sendM false) fullShare (two (snd0 m false c) (snd1 m false c)))
          -∗ Q ⟨c, v2, v3, v4⟩)
        -∗ Run c (onBufs k0_part1) Q) := by
  rw [k0_part1_eq_skeleton]; unfold k0_part1_skel
  simp only [semSignalWord, semWaitWord, Prog.lift, Prog.bind_op, Prog.bind_ret, Prog.pure_eq_ret, wp_deviceId]
  iintro ⟨#Hrec, #Hlev, Hx, HO, Ht1, Ht2, Hr1, Hg1, Hr2, Hg2, Hs, Hc, Hat⟩ Hk
  iapply (signal m K c _ false (dev1_eq c) (O₁ c) rfl) $$ [HO Ht1 Hr1 Hg1]
  · isplitr; · iexact Hrec
    isplitl [HO]; · iexact HO
    isplitl [Ht1]; · iexact Ht1
    isplitl [Hr1]; · iexact Hr1
    iexact Hg1
  iintro HO
  iapply (signal m K c _ true (dev2_eq c) (owe c 8) rfl) $$ [HO Ht2 Hr2 Hg2]
  · isplitr; · iexact Hrec
    isplitl [HO]; · iexact HO
    isplitl [Ht2]; · iexact Ht2
    isplitl [Hr2]; · iexact Hr2
    iexact Hg2
  iintro HO
  iapply (wait_bar m K c) $$ [Hc HO Hat]
  · isplitr; · iexact Hrec
    isplitr; · iexact Hlev
    isplitl [Hc]; · iexact Hc
    isplitl [HO]; · iexact HO
    iexact Hat
  iintro ⟨HO, Hat, Hb1, Hb2⟩
  ihave Hs := (some_split c (sendM false)) $$ Hs
  icases Hs with ⟨Hs0, Hs1⟩
  iapply (load_x c false _ (off1_eq c)) $$ Hx
  iintro Hx
  iapply (over_slab c (sendM false) rect0 _) $$ Hs0
  iintro Hs0
  iapply (load_x c false _ (off2_eq c)) $$ Hx
  iintro Hx
  iapply (over_slab c (sendM false) rect1 _) $$ Hs1
  iintro Hs1
  ihave Hs := (two_join c (sendM false) fullShare (snd0 m false c) (snd1 m false c)) $$ [Hs0 Hs1]
  · isplitl [Hs0]; · iexact Hs0
    iexact Hs1
  rw [wp_ret]
  imodintro
  iapply Hk
  isplitl [Hx]; · iexact Hx
  isplitl [HO]; · iexact HO
  isplitl [Hat]; · iexact Hat
  isplitl [Hb1]; · iexact Hb1
  isplitl [Hb2]; · iexact Hb2
  iexact Hs

/-- Part 2: send the first half's buffer to the first partner; fill the second half's and send it to the second. -/
theorem part2_run (v2 v3 v4) {Q : _ → sProp 𝕄} :
    iprop(records m K
        ∗ owns (c : Thread nD τ) (xM) fullShare (xin m c)
        ∗ ow (F := F) c (owe c 8)
        ∗ owns (c : Thread nD τ) (sendM false) fullShare (two (snd0 m false c) (snd1 m false c))
        ∗ some' (F := F) (near false c) (recvM false)
        ∗ some' (F := F) (c) (sendM true)
        ∗ some' (F := F) (near true c) (recvM true)
        ∗ tok (F := F) 0 3 12 c
        ∗ tok (F := F) 1 4 13 c)
      ⊢ iprop(((owns (c : Thread nD τ) (xM) fullShare (xin m c)
          ∗ ow (F := F) c (owe c 6)
          ∗ crd (F := F) c 3
          ∗ crd (F := F) c 4)
          -∗ Q ⟨⟩)
        -∗ Run c (onBufs k0_part2 c v2 v3 v4) Q) := by
  rw [k0_part2_eq_skeleton]; unfold k0_part2_skel
  simp only [semSignalWord, semWaitWord, Prog.lift, Prog.bind_op, Prog.bind_ret, Prog.pure_eq_ret, wp_deviceId]
  iintro ⟨#Hrec, Hx, HO, Hs0, Hd0, Hs, Hd1, Ht0, Ht1⟩ Hk
  iapply (send m K c (src := sendM false) (dst := recvM false) _ 0 3 12 (dev3_eq c) s_sem0 r_sem0 (two (snd0 m false c) (snd1 m false c)) (iprop(emp)) (by decide) (by decide) (by decide) (by decide) rfl rfl .rfl (land0 m c) (owe c 7) rfl) $$ [Hs0 Hd0  HO Ht0]
  · isplitr; · iexact Hrec
    isplitl [Hs0]; · iexact Hs0
    isplitl [Hd0]; · iexact Hd0
    isplitr; · iempintro
    isplitl [HO]; · iexact HO
    iexact Ht0
  iintro ⟨Hc3, HO⟩
  ihave Hs := (some_split c (sendM true)) $$ Hs
  icases Hs with ⟨Hs0, Hs1⟩
  iapply (load_x c true _ (off3_eq c)) $$ Hx
  iintro Hx
  iapply (over_slab c (sendM true) rect0 _) $$ Hs0
  iintro Hs0
  iapply (load_x c true _ (off4_eq c)) $$ Hx
  iintro Hx
  iapply (over_slab c (sendM true) rect1 _) $$ Hs1
  iintro Hs1
  ihave Hs := (two_join c (sendM true) fullShare (snd0 m true c) (snd1 m true c)) $$ [Hs0 Hs1]
  · isplitl [Hs0]; · iexact Hs0
    iexact Hs1
  iapply (send m K c (src := sendM true) (dst := recvM true) _ 1 4 13 (dev4_eq c) s_sem1 r_sem1 (two (snd0 m true c) (snd1 m true c)) (iprop(emp)) (by decide) (by decide) (by decide) (by decide) rfl rfl .rfl (land1 m c) (owe c 6) rfl) $$ [Hs Hd1  HO Ht1]
  · isplitr; · iexact Hrec
    isplitl [Hs]; · iexact Hs
    isplitl [Hd1]; · iexact Hd1
    isplitr; · iempintro
    isplitl [HO]; · iexact HO
    iexact Ht1
  iintro ⟨Hc4, HO⟩
  rw [wp_ret]
  imodintro
  iapply Hk
  isplitl [Hx]; · iexact Hx
  isplitl [HO]; · iexact HO
  isplitl [Hc3]; · iexact Hc3
  iexact Hc4

/-- Part 3: start the residual's copy, and put this device's own share of three of its four blocks in the accumulators. -/
theorem part3_run (v2) {Q : _ → sProp 𝕄} :
    iprop(records m K
        ∗ owns (c : Thread nD τ) (resSrc c) fullShare (res m c)
        ∗ some' (F := F) (c) (resM)
        ∗ dutyTok ER (dC c 11) 0 false
        ∗ owns (c : Thread nD τ) (xM) fullShare (xin m c)
        ∗ some' (F := F) (c) (slab0 (accM false))
        ∗ some' (F := F) (c) (slab1 (accM false))
        ∗ some' (F := F) (c) (slab0 (accM true)))
      ⊢ iprop((∀ v90, (owns (c : Thread nD τ) (xM) fullShare (xin m c)
          ∗ crd (F := F) c 11
          ∗ owns (c : Thread nD τ) (slab0 (accM false)) fullShare (part m false c c)
          ∗ owns (c : Thread nD τ) (slab1 (accM false)) fullShare (part m false c (far false c))
          ∗ owns (c : Thread nD τ) (slab0 (accM true)) fullShare (part m true c c))
          -∗ Q v90)
        -∗ Run c (onBufs k0_part3 c v2) Q) := by
  rw [k0_part3_eq_skeleton]; unfold k0_part3_skel
  simp only [semSignalWord, semWaitWord, Prog.lift, Prog.bind_op, Prog.bind_ret, Prog.pure_eq_ret, wp_deviceId]
  iintro ⟨#Hrec, Hsrc, Hres, Ht, Hx, Ha0, Ha1, Hb0⟩ Hk
  iapply (copy_res m K c s_sem8) $$ [Hsrc Hres Ht]
  · isplitr; · iexact Hrec
    isplitl [Hsrc]; · iexact Hsrc
    isplitl [Hres]; · iexact Hres
    iexact Ht
  iintro Hc
  iapply (load_x c false _ (off6_eq c)) $$ Hx
  iintro Hx
  iapply (over_slab c (accM false) rect0 _) $$ Ha0
  iintro Ha0
  iapply (load_x c false _ (off7_eq c)) $$ Hx
  iintro Hx
  iapply (over_slab c (accM false) rect1 _) $$ Ha1
  iintro Ha1
  iapply (load_x c true _ (off8_eq c)) $$ Hx
  iintro Hx
  iapply (over_slab c (accM true) rect0 _) $$ Hb0
  iintro Hb0
  rw [wp_ret]
  imodintro
  iapply Hk
  isplitl [Hx]; · iexact Hx
  isplitl [Hc]; · iexact Hc
  isplitl [Ha0]; · iexact Ha0
  isplitl [Ha1]; · iexact Ha1
  iexact Hb0

/-- Part 4: the last accumulator; wait for the first half's exchange; add what came to the first accumulator. -/
theorem part4_run (v3 v90) {Q : _ → sProp 𝕄} :
    iprop(records m K
        ∗ levAts L lv
        ∗ owns (c : Thread nD τ) (xM) fullShare (xin m c)
        ∗ ow (F := F) c (owe c 6)
        ∗ some' (F := F) (c) (slab1 (accM true))
        ∗ crd (F := F) c 3
        ∗ opened (F := F) c 3
        ∗ crd (F := F) c 12
        ∗ opened (F := F) c 12
        ∗ owns (c : Thread nD τ) (slab0 (accM false)) fullShare (part m false c c)
        ∗ owns (c : Thread nD τ) (slab1 (accM false)) fullShare (part m false c (far false c)))
      ⊢ iprop((∀ v117, (owns (c : Thread nD τ) (xM) fullShare (xin m c)
          ∗ ow (F := F) c (owe c 6)
          ∗ owns (c : Thread nD τ) (slab1 (accM true)) fullShare (part m true c (far true c))
          ∗ closed (F := F) c 3
          ∗ closed (F := F) c 12
          ∗ owns (c : Thread nD τ) (slab0 (sendM false)) fullShare (snd0 m false c)
          ∗ owns (c : Thread nD τ) (slab1 (sendM false)) fullShare (snd1 m false c)
          ∗ owns (c : Thread nD τ) (slab0 (accM false)) fullShare (acc0 m false c)
          ∗ owns (c : Thread nD τ) (slab1 (accM false)) fullShare (part m false c (far false c))
          ∗ owns (c : Thread nD τ) (slab0 (recvM false)) fullShare (snd0 m false (near false c))
          ∗ owns (c : Thread nD τ) (slab1 (recvM false)) fullShare (snd1 m false (near false c)))
          -∗ Q ⟨k0_pay10 (part m false c (far false c)) (snd1 m false (near false c)), v117⟩)
        -∗ Run c (onBufs k0_part4 c v3 v90) Q) := by
  rw [k0_part4_eq_skeleton]; unfold k0_part4_skel
  simp only [semSignalWord, semWaitWord, Prog.lift, Prog.bind_op, Prog.bind_ret, Prog.pure_eq_ret, wp_deviceId]
  iintro ⟨#Hrec, #Hlev, Hx, HO, Hb1, Hc3, Ho3, Hc12, Ho12, Ha0, Ha1⟩ Hk
  iapply (load_x c true _ (off9_eq c)) $$ Hx
  iintro Hx
  iapply (over_slab c (accM true) rect1 _) $$ Hb1
  iintro Hb1
  iapply (wait m K c (dst := sendM false) 3 (by decide) (by decide) 6 (by decide) (by decide) s_sem0 rfl) $$ [Hc3 HO Ho3]
  · isplitr; · iexact Hrec
    isplitr; · iexact Hlev
    isplitl [Hc3]; · iexact Hc3
    isplitl [HO]; · iexact HO
    iexact Ho3
  iintro ⟨HO, Ho3, Hs⟩
  ihave Hs := (show pay m 3 c ⊢ owns (c : Thread nD τ) (sendM false) fullShare (two (snd0 m false c) (snd1 m false c)) from .rfl) $$ Hs
  iapply (wait m K c (dst := recvM false) 12 (by decide) (by decide) 6 (by decide) (by decide) r_sem0 rfl) $$ [Hc12 HO Ho12]
  · isplitr; · iexact Hrec
    isplitr; · iexact Hlev
    isplitl [Hc12]; · iexact Hc12
    isplitl [HO]; · iexact HO
    iexact Ho12
  iintro ⟨HO, Ho12, Hr⟩
  ihave Hr := (show pay m 12 c ⊢ owns (c : Thread nD τ) (recvM false) fullShare (two (snd0 m false (near false c)) (snd1 m false (near false c))) from .rfl) $$ Hr
  ihave Hr := (two_split' c (recvM false) fullShare (snd0 m false (near false c)) (snd1 m false (near false c))) $$ Hr
  icases Hr with ⟨Hr0, Hr1⟩
  ihave Hs := (two_split' c (sendM false) fullShare (snd0 m false c) (snd1 m false c)) $$ Hs
  icases Hs with ⟨Hs0, Hs1⟩
  iapply (load_slice c (accM false) rect0 _) $$ Ha0
  iintro Ha0
  iapply (load_slice c (recvM false) rect0 _) $$ Hr0
  iintro Hr0
  ihave Ha0 := (some_intro c (slab0 (accM false)) _) $$ Ha0
  iapply (over_slab c (accM false) rect0 _) $$ Ha0
  iintro Ha0
  iapply (load_slice c (accM false) rect1 _) $$ Ha1
  iintro Ha1
  iapply (load_slice c (recvM false) rect1 _) $$ Hr1
  iintro Hr1
  iapply (load_slice c (accM false) rect1 _) $$ Ha1
  iintro Ha1
  rw [wp_ret]
  imodintro
  iapply Hk
  isplitl [Hx]; · iexact Hx
  isplitl [HO]; · iexact HO
  isplitl [Hb1]; · iexact Hb1
  isplitl [Ho3]; · iexact Ho3
  isplitl [Ho12]; · iexact Ho12
  isplitl [Hs0]; · iexact Hs0
  isplitl [Hs1]; · iexact Hs1
  isplitl [Ha0]; · iexact Ha0
  isplitl [Ha1]; · iexact Ha1
  isplitl [Hr0]; · iexact Hr0
  iexact Hr1

end Cert.Exchange
-- ==== Proof.PartsB.lean ====
/-
# The middle parts of the kernel: the second exchange, and the rows each device finishes
-/
module

public import proofs.«01_k».proof.Proof.Tools

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 18 → ℕ) (c : Dev nD)

/-! What each copy leaves at its target, and what goes with it, is what the target's wait hands over. -/

theorem land2 (c : Dev nD) : iprop(owns (tgt 2 c : Thread nD τ) (gotM false) fullShare (flatten (acc1 m false c)) ∗ some' (F := F) (c) (slab1 (sendM false))) ⊢ pay m 14 (tgt 2 c) := by
  have e : far false (tgt 2 c) = c := q2_q2 c
  unfold pay
  rw [e]
  exact .rfl

theorem land3 (c : Dev nD) : iprop(owns (tgt 3 c : Thread nD τ) (gotM true) fullShare (flatten (acc1 m true c)) ∗ iprop(some' (F := F) (c) (slab1 (sendM true)) ∗ some' (F := F) (c) (recvM false))) ⊢ pay m 15 (tgt 3 c) := by
  have e : far true (tgt 3 c) = c := q1_q1 c
  have e' : near false (tgt 3 c) = c := q1_q1 c
  unfold pay
  rw [e, e']
  exact .rfl

theorem land4 (c : Dev nD) : iprop(owns (tgt 4 c : Thread nD τ) (flat1 (sendM false)) fullShare (flatten (fins m false c)) ∗ some' (F := F) (c) (recvM true)) ⊢ pay m 16 (tgt 4 c) := by
  have e : far false (tgt 4 c) = c := q2_q2 c
  have e' : near true (tgt 4 c) = c := q2_q2 c
  unfold pay
  rw [e, e']
  exact .rfl

/-- Part 5: pass the second slab of the first accumulator on; wait for the second half's exchange; add what came to its first
slab. -/
theorem part5_run (v4 v117) {Q : _ → sProp 𝕄} :
    iprop(records m K
        ∗ levAts L lv
        ∗ ow (F := F) c (owe c 6)
        ∗ some' (F := F) (c) (slab1 (accM false))
        ∗ some' (F := F) (far false c) (gotM false)
        ∗ some' (F := F) (c) (slab1 (sendM false))
        ∗ tok (F := F) 2 5 14 c
        ∗ crd (F := F) c 4
        ∗ opened (F := F) c 4
        ∗ crd (F := F) c 13
        ∗ opened (F := F) c 13
        ∗ owns (c : Thread nD τ) (slab0 (accM true)) fullShare (part m true c c)
        ∗ owns (c : Thread nD τ) (slab1 (accM true)) fullShare (part m true c (far true c)))
      ⊢ iprop(((ow (F := F) c (owe c 5)
          ∗ crd (F := F) c 5
          ∗ closed (F := F) c 4
          ∗ closed (F := F) c 13
          ∗ owns (c : Thread nD τ) (slab0 (sendM true)) fullShare (snd0 m true c)
          ∗ owns (c : Thread nD τ) (slab1 (sendM true)) fullShare (snd1 m true c)
          ∗ owns (c : Thread nD τ) (slab0 (accM true)) fullShare (acc0 m true c)
          ∗ owns (c : Thread nD τ) (slab1 (accM true)) fullShare (part m true c (far true c))
          ∗ owns (c : Thread nD τ) (slab0 (recvM true)) fullShare (snd0 m true (near true c))
          ∗ owns (c : Thread nD τ) (slab1 (recvM true)) fullShare (snd1 m true (near true c)))
          -∗ Q (k0_pay13 (part m true c (far true c))))
        -∗ Run c (onBufs k0_part5 c v4 (k0_pay10 (part m false c (far false c)) (snd1 m false (near false c))) v117) Q) := by
  rw [k0_part5_eq_skeleton]; unfold k0_part5_skel
  simp only [semSignalWord, semWaitWord, Prog.lift, Prog.bind_op, Prog.bind_ret, Prog.pure_eq_ret, wp_deviceId]
  iintro ⟨#Hrec, #Hlev, HO, Ha1, Hd, He, Ht2, Hc4, Ho4, Hc13, Ho13, Hb0, Hb1⟩ Hk
  iapply (store_slice c (accM false) rect1 _ (w := acc1 m false c)) $$ Ha1
  iintro Ha1
  ihave Ha1 := (flat_intro c (slab1 (accM false)) fullShare (acc1 m false c)) $$ Ha1
  iapply (send m K c (src := flat1 (accM false)) (dst := gotM false) _ 2 5 14 (dev5_eq c) s_sem2 r_sem2 (flatten (acc1 m false c)) (some' (F := F) (c) (slab1 (sendM false))) (by decide) (by decide) (by decide) (by decide) rfl rfl .rfl (land2 m c) (owe c 5) rfl) $$ [Ha1 Hd He HO Ht2]
  · isplitr; · iexact Hrec
    isplitl [Ha1]; · iexact Ha1
    isplitl [Hd]; · iexact Hd
    isplitl [He]; · iexact He
    isplitl [HO]; · iexact HO
    iexact Ht2
  iintro ⟨Hc5, HO⟩
  iapply (wait m K c (dst := sendM true) 4 (by decide) (by decide) 5 (by decide) (by decide) s_sem1 rfl) $$ [Hc4 HO Ho4]
  · isplitr; · iexact Hrec
    isplitr; · iexact Hlev
    isplitl [Hc4]; · iexact Hc4
    isplitl [HO]; · iexact HO
    iexact Ho4
  iintro ⟨HO, Ho4, Hs⟩
  ihave Hs := (show pay m 4 c ⊢ owns (c : Thread nD τ) (sendM true) fullShare (two (snd0 m true c) (snd1 m true c)) from .rfl) $$ Hs
  iapply (wait m K c (dst := recvM true) 13 (by decide) (by decide) 5 (by decide) (by decide) r_sem1 rfl) $$ [Hc13 HO Ho13]
  · isplitr; · iexact Hrec
    isplitr; · iexact Hlev
    isplitl [Hc13]; · iexact Hc13
    isplitl [HO]; · iexact HO
    iexact Ho13
  iintro ⟨HO, Ho13, Hr⟩
  ihave Hr := (show pay m 13 c ⊢ owns (c : Thread nD τ) (recvM true) fullShare (two (snd0 m true (near true c)) (snd1 m true (near true c))) from .rfl) $$ Hr
  ihave Hr := (two_split' c (recvM true) fullShare (snd0 m true (near true c)) (snd1 m true (near true c))) $$ Hr
  icases Hr with ⟨Hr0, Hr1⟩
  ihave Hs := (two_split' c (sendM true) fullShare (snd0 m true c) (snd1 m true c)) $$ Hs
  icases Hs with ⟨Hs0, Hs1⟩
  iapply (load_slice c (accM true) rect0 _) $$ Hb0
  iintro Hb0
  iapply (load_slice c (recvM true) rect0 _) $$ Hr0
  iintro Hr0
  ihave Hb0 := (some_intro c (slab0 (accM true)) _) $$ Hb0
  iapply (over_slab c (accM true) rect0 _) $$ Hb0
  iintro Hb0
  iapply (load_slice c (accM true) rect1 _) $$ Hb1
  iintro Hb1
  rw [wp_ret]
  imodintro
  iapply Hk
  isplitl [HO]; · iexact HO
  isplitl [Hc5]; · iexact Hc5
  isplitl [Ho4]; · iexact Ho4
  isplitl [Ho13]; · iexact Ho13
  isplitl [Hs0]; · iexact Hs0
  isplitl [Hs1]; · iexact Hs1
  isplitl [Hb0]; · iexact Hb0
  isplitl [Hb1]; · iexact Hb1
  isplitl [Hr0]; · iexact Hr0
  iexact Hr1

/-- Part 6: the second slab of the second accumulator likewise; wait for the first half's second exchange and for the
residual. -/
theorem part6_run (v3 v4) {Q : _ → sProp 𝕄} :
    iprop(records m K
        ∗ levAts L lv
        ∗ ow (F := F) c (owe c 5)
        ∗ owns (c : Thread nD τ) (slab1 (recvM true)) fullShare (snd1 m true (near true c))
        ∗ some' (F := F) (c) (slab1 (accM true))
        ∗ some' (F := F) (far true c) (gotM true)
        ∗ some' (F := F) (c) (slab1 (sendM true))
        ∗ some' (F := F) (c) (recvM false)
        ∗ tok (F := F) 3 6 15 c
        ∗ crd (F := F) c 5
        ∗ opened (F := F) c 5
        ∗ crd (F := F) c 14
        ∗ opened (F := F) c 14
        ∗ crd (F := F) c 11
        ∗ opened (F := F) c 11)
      ⊢ iprop(((ow (F := F) c (owe c 4)
          ∗ owns (c : Thread nD τ) (slab1 (recvM true)) fullShare (snd1 m true (near true c))
          ∗ crd (F := F) c 6
          ∗ closed (F := F) c 5
          ∗ closed (F := F) c 14
          ∗ closed (F := F) c 11
          ∗ owns (c : Thread nD τ) (flat1 (accM false)) fullShare (flatten (acc1 m false c))
          ∗ owns (c : Thread nD τ) (gotM false) fullShare (flatten (acc1 m false (far false c)))
          ∗ some' (F := F) (far false c) (slab1 (sendM false))
          ∗ owns (c : Thread nD τ) (resM) fullShare (res m c)
          ∗ owns (c : Thread nD τ) (resSrc c) fullShare (res m c))
          -∗ Q ⟨⟩)
        -∗ Run c (onBufs k0_part6 c v3 v4 (k0_pay13 (part m true c (far true c)))) Q) := by
  rw [k0_part6_eq_skeleton]; unfold k0_part6_skel
  simp only [semSignalWord, semWaitWord, Prog.lift, Prog.bind_op, Prog.bind_ret, Prog.pure_eq_ret, wp_deviceId]
  iintro ⟨#Hrec, #Hlev, HO, Hr1, Hb1, Hd, He, Hf, Ht3, Hc5, Ho5, Hc14, Ho14, Hc11, Ho11⟩ Hk
  iapply (load_slice c (recvM true) rect1 _) $$ Hr1
  iintro Hr1
  iapply (over_slab c (accM true) rect1 _ (w := acc1 m true c)) $$ Hb1
  iintro Hb1
  ihave Hb1 := (flat_intro c (slab1 (accM true)) fullShare (acc1 m true c)) $$ Hb1
  iapply (send m K c (src := flat1 (accM true)) (dst := gotM true) _ 3 6 15 (dev6_eq c) s_sem3 r_sem3 (flatten (acc1 m true c)) (iprop(some' (F := F) (c) (slab1 (sendM true)) ∗ some' (F := F) (c) (recvM false))) (by decide) (by decide) (by decide) (by decide) rfl rfl .rfl (land3 m c) (owe c 4) rfl) $$ [Hb1 Hd He Hf HO Ht3]
  · isplitr; · iexact Hrec
    isplitl [Hb1]; · iexact Hb1
    isplitl [Hd]; · iexact Hd
    isplitl [He Hf]; · (isplitl [He]; · iexact He); iexact Hf
    isplitl [HO]; · iexact HO
    iexact Ht3
  iintro ⟨Hc6, HO⟩
  iapply (wait m K c (dst := flat1 (accM false)) 5 (by decide) (by decide) 4 (by decide) (by decide) s_sem2 rfl) $$ [Hc5 HO Ho5]
  · isplitr; · iexact Hrec
    isplitr; · iexact Hlev
    isplitl [Hc5]; · iexact Hc5
    isplitl [HO]; · iexact HO
    iexact Ho5
  iintro ⟨HO, Ho5, Ha1⟩
  ihave Ha1 := (show pay m 5 c ⊢ owns (c : Thread nD τ) (flat1 (accM false)) fullShare (flatten (acc1 m false c)) from .rfl) $$ Ha1
  iapply (wait m K c (dst := gotM false) 14 (by decide) (by decide) 4 (by decide) (by decide) r_sem2 rfl) $$ [Hc14 HO Ho14]
  · isplitr; · iexact Hrec
    isplitr; · iexact Hlev
    isplitl [Hc14]; · iexact Hc14
    isplitl [HO]; · iexact HO
    iexact Ho14
  iintro ⟨HO, Ho14, Hp⟩
  ihave Hp := (show pay m 14 c ⊢ iprop(owns (c : Thread nD τ) (gotM false) fullShare (flatten (acc1 m false (far false c))) ∗ some' (F := F) (far false c) (slab1 (sendM false))) from .rfl) $$ Hp
  icases Hp with ⟨Hg, Hd⟩
  iapply (wait m K c (dst := resM) 11 (by decide) (by decide) 4 (by decide) (by decide) s_sem8 rfl) $$ [Hc11 HO Ho11]
  · isplitr; · iexact Hrec
    isplitr; · iexact Hlev
    isplitl [Hc11]; · iexact Hc11
    isplitl [HO]; · iexact HO
    iexact Ho11
  iintro ⟨HO, Ho11, Hp⟩
  ihave Hp := (show pay m 11 c ⊢ iprop(owns (c : Thread nD τ) (resM) fullShare (res m c) ∗ owns (c : Thread nD τ) (resSrc c) fullShare (res m c)) from .rfl) $$ Hp
  icases Hp with ⟨Hres, Hsrc⟩
  rw [wp_ret]
  imodintro
  iapply Hk
  isplitl [HO]; · iexact HO
  isplitl [Hr1]; · iexact Hr1
  isplitl [Hc6]; · iexact Hc6
  isplitl [Ho5]; · iexact Ho5
  isplitl [Ho14]; · iexact Ho14
  isplitl [Ho11]; · iexact Ho11
  isplitl [Ha1]; · iexact Ha1
  isplitl [Hg]; · iexact Hg
  isplitl [Hd]; · iexact Hd
  isplitl [Hres]; · iexact Hres
  iexact Hsrc

/-- Part 7: finish the first half's own rows and pass them on. -/
theorem part7_run (v4) {Q : _ → sProp 𝕄} :
    iprop(records m K
        ∗ ow (F := F) c (owe c 4)
        ∗ owns (c : Thread nD τ) (slab0 (accM false)) fullShare (acc0 m false c)
        ∗ owns (c : Thread nD τ) (gotM false) fullShare (flatten (acc1 m false (far false c)))
        ∗ owns (c : Thread nD τ) (resM) fullShare (res m c)
        ∗ owns (c : Thread nD τ) (gM) fullShare (gin m c)
        ∗ some' (F := F) (c) (slab0 (sendM false))
        ∗ some' (F := F) (far false c) (slab1 (sendM false))
        ∗ some' (F := F) (c) (recvM true)
        ∗ tok (F := F) 4 7 16 c)
      ⊢ iprop(((ow (F := F) c (owe c 3)
          ∗ owns (c : Thread nD τ) (slab0 (accM false)) fullShare (acc0 m false c)
          ∗ owns (c : Thread nD τ) (gotM false) fullShare (flatten (acc1 m false (far false c)))
          ∗ owns (c : Thread nD τ) (resM) fullShare (res m c)
          ∗ owns (c : Thread nD τ) (gM) fullShare (gin m c)
          ∗ crd (F := F) c 7)
          -∗ Q (fin m false c))
        -∗ Run c (onBufs k0_part7 c v4) Q) := by
  rw [k0_part7_eq_skeleton]; unfold k0_part7_skel
  simp only [semSignalWord, semWaitWord, Prog.lift, Prog.bind_op, Prog.bind_ret, Prog.pure_eq_ret, wp_deviceId]
  iintro ⟨#Hrec, HO, Ha0, Hg, Hres, Hgm, Hs0, Hd, He, Ht4⟩ Hk
  iapply (load_slice c (accM false) rect0 _) $$ Ha0
  iintro Ha0
  iapply (load_all c (gotM false) zero2 _) $$ Hg
  iintro Hg
  iapply (load_res0 m c) $$ Hres
  iintro Hres
  iapply (load_all c gM zero1 _) $$ Hgm
  iintro Hgm
  iapply (over_slab c (sendM false) rect0 _ (w := fins m false c)) $$ Hs0
  iintro Hs0
  ihave Hs0 := (flat_intro c (slab0 (sendM false)) fullShare (fins m false c)) $$ Hs0
  ihave Hd := (some_flat (far false c) (slab1 (sendM false))) $$ Hd
  iapply (send m K c (src := flat0 (sendM false)) (dst := flat1 (sendM false)) _ 4 7 16 (dev7_eq c) s_sem4 r_sem4 (flatten (fins m false c)) (some' (F := F) (c) (recvM true)) (by decide) (by decide) (by decide) (by decide) rfl rfl .rfl (land4 m c) (owe c 3) rfl) $$ [Hs0 Hd He HO Ht4]
  · isplitr; · iexact Hrec
    isplitl [Hs0]; · iexact Hs0
    isplitl [Hd]; · iexact Hd
    isplitl [He]; · iexact He
    isplitl [HO]; · iexact HO
    iexact Ht4
  iintro ⟨Hc7, HO⟩
  rw [show k0_pay15 (acc0 m false c) (flatten (acc1 m false (far false c))) (resH m false c) (gin m c) = fin m false c from rfl]
  rw [wp_ret]
  imodintro
  iapply Hk
  isplitl [HO]; · iexact HO
  isplitl [Ha0]; · iexact Ha0
  isplitl [Hg]; · iexact Hg
  isplitl [Hres]; · iexact Hres
  isplitl [Hgm]; · iexact Hgm
  iexact Hc7

/-- Part 8: store the first half's own rows; wait for the second half's second exchange. -/
theorem part8_run (v2 v3) (Y : Vec F S2048x2048 .f32) {Q : _ → sProp 𝕄} :
    iprop(records m K
        ∗ levAts L lv
        ∗ ow (F := F) c (owe c 3)
        ∗ owns (c : Thread nD τ) (oM) fullShare (Y)
        ∗ crd (F := F) c 6
        ∗ opened (F := F) c 6
        ∗ crd (F := F) c 15
        ∗ opened (F := F) c 15
        ∗ owns (c : Thread nD τ) (slab0 (accM true)) fullShare (acc0 m true c)
        ∗ owns (c : Thread nD τ) (resM) fullShare (res m c))
      ⊢ iprop(((ow (F := F) c (owe c 3)
          ∗ owns (c : Thread nD τ) (oM) fullShare (put (orect false c) (fin m false c) Y)
          ∗ closed (F := F) c 6
          ∗ closed (F := F) c 15
          ∗ owns (c : Thread nD τ) (slab0 (accM true)) fullShare (acc0 m true c)
          ∗ owns (c : Thread nD τ) (resM) fullShare (res m c)
          ∗ owns (c : Thread nD τ) (flat1 (accM true)) fullShare (flatten (acc1 m true c))
          ∗ owns (c : Thread nD τ) (gotM true) fullShare (flatten (acc1 m true (far true c)))
          ∗ some' (F := F) (far true c) (slab1 (sendM true))
          ∗ some' (F := F) (near false c) (recvM false))
          -∗ Q (k0_pay17 (acc0 m true c) (flatten (acc1 m true (far true c))) (resH m true c)))
        -∗ Run c (onBufs k0_part8 c v2 v3 (fin m false c)) Q) := by
  rw [k0_part8_eq_skeleton]; unfold k0_part8_skel
  simp only [semSignalWord, semWaitWord, Prog.lift, Prog.bind_op, Prog.bind_ret, Prog.pure_eq_ret, wp_deviceId]
  iintro ⟨#Hrec, #Hlev, HO, Hout, Hc6, Ho6, Hc15, Ho15, Hb0, Hres⟩ Hk
  iapply (over_out c false c (off10_eq c) _) $$ Hout
  iintro Hout
  iapply (wait m K c (dst := flat1 (accM true)) 6 (by decide) (by decide) 3 (by decide) (by decide) s_sem3 rfl) $$ [Hc6 HO Ho6]
  · isplitr; · iexact Hrec
    isplitr; · iexact Hlev
    isplitl [Hc6]; · iexact Hc6
    isplitl [HO]; · iexact HO
    iexact Ho6
  iintro ⟨HO, Ho6, Hb1⟩
  ihave Hb1 := (show pay m 6 c ⊢ owns (c : Thread nD τ) (flat1 (accM true)) fullShare (flatten (acc1 m true c)) from .rfl) $$ Hb1
  iapply (wait m K c (dst := gotM true) 15 (by decide) (by decide) 3 (by decide) (by decide) r_sem3 rfl) $$ [Hc15 HO Ho15]
  · isplitr; · iexact Hrec
    isplitr; · iexact Hlev
    isplitl [Hc15]; · iexact Hc15
    isplitl [HO]; · iexact HO
    iexact Ho15
  iintro ⟨HO, Ho15, Hp⟩
  ihave Hp := (show pay m 15 c ⊢ iprop(owns (c : Thread nD τ) (gotM true) fullShare (flatten (acc1 m true (far true c))) ∗ some' (F := F) (far true c) (slab1 (sendM true)) ∗ some' (F := F) (near false c) (recvM false)) from .rfl) $$ Hp
  icases Hp with ⟨Hg, Hd, Hf⟩
  iapply (load_slice c (accM true) rect0 _) $$ Hb0
  iintro Hb0
  iapply (load_all c (gotM true) zero2 _) $$ Hg
  iintro Hg
  iapply (load_res1 m c) $$ Hres
  iintro Hres
  rw [wp_ret]
  imodintro
  iapply Hk
  isplitl [HO]; · iexact HO
  isplitl [Hout]; · iexact Hout
  isplitl [Ho6]; · iexact Ho6
  isplitl [Ho15]; · iexact Ho15
  isplitl [Hb0]; · iexact Hb0
  isplitl [Hres]; · iexact Hres
  isplitl [Hb1]; · iexact Hb1
  isplitl [Hg]; · iexact Hg
  isplitl [Hd]; · iexact Hd
  iexact Hf

end Cert.Exchange
-- ==== Proof.PartsC.lean ====
/-
# The last parts of the kernel: the finished rows go round and are stored
-/
module

public import proofs.«01_k».proof.Proof.Tools

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 18 → ℕ) (c : Dev nD)

/-! What each copy leaves at its target is what the target's wait hands over. -/

theorem land5 (c : Dev nD) : iprop(owns (tgt 5 c : Thread nD τ) (flat1 (sendM true)) fullShare (flatten (fins m true c)) ∗ iprop(emp)) ⊢ pay m 17 (tgt 5 c) := by
  have e : far true (tgt 5 c) = c := q1_q1 c
  unfold pay
  rw [e]
  iintro ⟨H, -⟩
  iexact H

theorem land6 (c : Dev nD) : iprop(owns (tgt 6 c : Thread nD τ) (recvM false) fullShare (two (fins m false c) (fins m false (far false c))) ∗ iprop(emp)) ⊢ pay m 18 (tgt 6 c) := by
  have e : near false (tgt 6 c) = c := q1_q1 c
  unfold pay
  rw [e]
  iintro ⟨H, -⟩
  iexact H

theorem land7 (c : Dev nD) : iprop(owns (tgt 7 c : Thread nD τ) (recvM true) fullShare (two (fins m true c) (fins m true (far true c))) ∗ iprop(emp)) ⊢ pay m 19 (tgt 7 c) := by
  have e : near true (tgt 7 c) = c := q2_q2 c
  unfold pay
  rw [e]
  iintro ⟨H, -⟩
  iexact H

/-- Part 9: finish the second half's own rows, pass them on and store them; wait until the first half's are sent. -/
theorem part9_run (v2 v3) (Y : Vec F S2048x2048 .f32) {Q : _ → sProp 𝕄} :
    iprop(records m K
        ∗ levAts L lv
        ∗ ow (F := F) c (owe c 3)
        ∗ owns (c : Thread nD τ) (gM) fullShare (gin m c)
        ∗ some' (F := F) (c) (slab0 (sendM true))
        ∗ some' (F := F) (far true c) (slab1 (sendM true))
        ∗ tok (F := F) 5 8 17 c
        ∗ owns (c : Thread nD τ) (oM) fullShare (Y)
        ∗ crd (F := F) c 7
        ∗ opened (F := F) c 7)
      ⊢ iprop(((ow (F := F) c (owe c 2)
          ∗ owns (c : Thread nD τ) (gM) fullShare (gin m c)
          ∗ crd (F := F) c 8
          ∗ owns (c : Thread nD τ) (oM) fullShare (put (orect true c) (fin m true c) Y)
          ∗ closed (F := F) c 7
          ∗ owns (c : Thread nD τ) (flat0 (sendM false)) fullShare (flatten (fins m false c)))
          -∗ Q ⟨⟩)
        -∗ Run c (onBufs k0_part9 c v2 v3 (k0_pay17 (acc0 m true c) (flatten (acc1 m true (far true c))) (resH m true c))) Q) := by
  rw [k0_part9_eq_skeleton]; unfold k0_part9_skel
  simp only [semSignalWord, semWaitWord, Prog.lift, Prog.bind_op, Prog.bind_ret, Prog.pure_eq_ret, wp_deviceId]
  iintro ⟨#Hrec, #Hlev, HO, Hgm, Hs0, Hd, Ht5, Hout, Hc7, Ho7⟩ Hk
  iapply (load_all c gM zero1 _) $$ Hgm
  iintro Hgm
  iapply (over_slab c (sendM true) rect0 _ (w := fins m true c)) $$ Hs0
  iintro Hs0
  ihave Hs0 := (flat_intro c (slab0 (sendM true)) fullShare (fins m true c)) $$ Hs0
  ihave Hd := (some_flat (far true c) (slab1 (sendM true))) $$ Hd
  iapply (send m K c (src := flat0 (sendM true)) (dst := flat1 (sendM true)) _ 5 8 17 (dev8_eq c) s_sem5 r_sem5 (flatten (fins m true c)) (iprop(emp)) (by decide) (by decide) (by decide) (by decide) rfl rfl .rfl (land5 m c) (owe c 2) rfl) $$ [Hs0 Hd  HO Ht5]
  · isplitr; · iexact Hrec
    isplitl [Hs0]; · iexact Hs0
    isplitl [Hd]; · iexact Hd
    isplitr; · iempintro
    isplitl [HO]; · iexact HO
    iexact Ht5
  iintro ⟨Hc8, HO⟩
  iapply (over_out c true c (off11_eq c) _) $$ Hout
  iintro Hout
  iapply (wait m K c (dst := flat0 (sendM false)) 7 (by decide) (by decide) 2 (by decide) (by decide) s_sem4 rfl) $$ [Hc7 HO Ho7]
  · isplitr; · iexact Hrec
    isplitr; · iexact Hlev
    isplitl [Hc7]; · iexact Hc7
    isplitl [HO]; · iexact HO
    iexact Ho7
  iintro ⟨HO, Ho7, Hs⟩
  ihave Hs := (show pay m 7 c ⊢ owns (c : Thread nD τ) (flat0 (sendM false)) fullShare (flatten (fins m false c)) from .rfl) $$ Hs
  rw [wp_ret]
  imodintro
  iapply Hk
  isplitl [HO]; · iexact HO
  isplitl [Hgm]; · iexact Hgm
  isplitl [Hc8]; · iexact Hc8
  isplitl [Hout]; · iexact Hout
  isplitl [Ho7]; · iexact Ho7
  iexact Hs

/-- Part 10: pass the two finished blocks of the first half on, and store the one that came. -/
theorem part10_run (v2 v3 v4) (Y : Vec F S2048x2048 .f32) {Q : _ → sProp 𝕄} :
    iprop(records m K
        ∗ levAts L lv
        ∗ ow (F := F) c (owe c 2)
        ∗ crd (F := F) c 16
        ∗ opened (F := F) c 16
        ∗ owns (c : Thread nD τ) (flat0 (sendM false)) fullShare (flatten (fins m false c))
        ∗ some' (F := F) (near false c) (recvM false)
        ∗ tok (F := F) 6 9 18 c
        ∗ owns (c : Thread nD τ) (oM) fullShare (Y)
        ∗ crd (F := F) c 8
        ∗ opened (F := F) c 8)
      ⊢ iprop(((ow (F := F) c (owe c 1)
          ∗ closed (F := F) c 16
          ∗ some' (F := F) (near true c) (recvM true)
          ∗ crd (F := F) c 9
          ∗ owns (c : Thread nD τ) (sendM false) (fullShare : PosShare TreeShare).left (two (fins m false c) (fins m false (far false c)))
          ∗ owns (c : Thread nD τ) (oM) fullShare (put (orect false (far false c)) (k0_pay20 (fins m false (far false c))) Y)
          ∗ closed (F := F) c 8
          ∗ owns (c : Thread nD τ) (flat0 (sendM true)) fullShare (flatten (fins m true c)))
          -∗ Q ⟨⟩)
        -∗ Run c (onBufs k0_part10 c v2 v3 v4) Q) := by
  rw [k0_part10_eq_skeleton]; unfold k0_part10_skel
  simp only [semSignalWord, semWaitWord, Prog.lift, Prog.bind_op, Prog.bind_ret, Prog.pure_eq_ret, wp_deviceId]
  iintro ⟨#Hrec, #Hlev, HO, Hc16, Ho16, Hs0, Hd, Ht6, Hout, Hc8, Ho8⟩ Hk
  iapply (wait m K c (dst := flat1 (sendM false)) 16 (by decide) (by decide) 2 (by decide) (by decide) r_sem4 rfl) $$ [Hc16 HO Ho16]
  · isplitr; · iexact Hrec
    isplitr; · iexact Hlev
    isplitl [Hc16]; · iexact Hc16
    isplitl [HO]; · iexact HO
    iexact Ho16
  iintro ⟨HO, Ho16, Hp⟩
  ihave Hp := (show pay m 16 c ⊢ iprop(owns (c : Thread nD τ) (flat1 (sendM false)) fullShare (flatten (fins m false (far false c))) ∗ some' (F := F) (near true c) (recvM true)) from .rfl) $$ Hp
  icases Hp with ⟨Hs1, Hd'⟩
  ihave Hs0 := (flat_elim c (slab0 (sendM false)) fullShare (fins m false c)) $$ Hs0
  ihave Hs1 := (flat_elim c (slab1 (sendM false)) fullShare (fins m false (far false c))) $$ Hs1
  ihave Hs := (two_join c (sendM false) fullShare (fins m false c) (fins m false (far false c))) $$ [Hs0 Hs1]
  · isplitl [Hs0]; · iexact Hs0
    iexact Hs1
  ihave Hs := (owns_halves (c : Thread nD τ) (sendM false) fullShare (two (fins m false c) (fins m false (far false c)))).1 $$ Hs
  icases Hs with ⟨Hl, Hr⟩
  iapply (send m K c (src := sendM false) (dst := recvM false) _ 6 9 18 (dev9_eq c) s_sem6 r_sem6 (two (fins m false c) (fins m false (far false c))) (iprop(emp)) (by decide) (by decide) (by decide) (by decide) rfl rfl .rfl (land6 m c) (owe c 1) rfl) $$ [Hr Hd  HO Ht6]
  · isplitr; · iexact Hrec
    isplitl [Hr]; · iexact Hr
    isplitl [Hd]; · iexact Hd
    isplitr; · iempintro
    isplitl [HO]; · iexact HO
    iexact Ht6
  iintro ⟨Hc9, HO⟩
  ihave Hl := (two_split' c (sendM false) (fullShare : PosShare TreeShare).left (fins m false c) (fins m false (far false c))) $$ Hl
  icases Hl with ⟨Hl0, Hl1⟩
  iapply (load_slice c (sendM false) rect1 _) $$ Hl1
  iintro Hl1
  ihave Hl := (two_join c (sendM false) (fullShare : PosShare TreeShare).left (fins m false c) (fins m false (far false c))) $$ [Hl0 Hl1]
  · isplitl [Hl0]; · iexact Hl0
    iexact Hl1
  iapply (over_out c false _ (off12_eq c) _) $$ Hout
  iintro Hout
  iapply (wait m K c (dst := flat0 (sendM true)) 8 (by decide) (by decide) 1 (by decide) (by decide) s_sem5 rfl) $$ [Hc8 HO Ho8]
  · isplitr; · iexact Hrec
    isplitr; · iexact Hlev
    isplitl [Hc8]; · iexact Hc8
    isplitl [HO]; · iexact HO
    iexact Ho8
  iintro ⟨HO, Ho8, Ht⟩
  ihave Ht := (show pay m 8 c ⊢ owns (c : Thread nD τ) (flat0 (sendM true)) fullShare (flatten (fins m true c)) from .rfl) $$ Ht
  rw [wp_ret]
  imodintro
  iapply Hk
  isplitl [HO]; · iexact HO
  isplitl [Ho16]; · iexact Ho16
  isplitl [Hd']; · iexact Hd'
  isplitl [Hc9]; · iexact Hc9
  isplitl [Hl]; · iexact Hl
  isplitl [Hout]; · iexact Hout
  isplitl [Ho8]; · iexact Ho8
  iexact Ht

/-- Part 11: the same for the second half; wait for the first half's last exchange. -/
theorem part11_run (v2) (v3) (v4) (Y : Vec F S2048x2048 .f32) {Q : _ → sProp 𝕄} :
    iprop(records m K
        ∗ levAts L lv
        ∗ ow (F := F) c (owe c 1)
        ∗ crd (F := F) c 17
        ∗ opened (F := F) c 17
        ∗ owns (c : Thread nD τ) (flat0 (sendM true)) fullShare (flatten (fins m true c))
        ∗ some' (F := F) (near true c) (recvM true)
        ∗ tok (F := F) 7 10 19 c
        ∗ owns (c : Thread nD τ) (oM) fullShare (Y)
        ∗ crd (F := F) c 9
        ∗ opened (F := F) c 9
        ∗ crd (F := F) c 18
        ∗ opened (F := F) c 18)
      ⊢ iprop(((ow (F := F) c (owe c 0)
          ∗ closed (F := F) c 17
          ∗ crd (F := F) c 10
          ∗ owns (c : Thread nD τ) (sendM true) (fullShare : PosShare TreeShare).left (two (fins m true c) (fins m true (far true c)))
          ∗ owns (c : Thread nD τ) (oM) fullShare (put (orect true (far true c)) (k0_pay20 (fins m true (far true c))) Y)
          ∗ closed (F := F) c 9
          ∗ owns (c : Thread nD τ) (sendM false) (fullShare : PosShare TreeShare).right (two (fins m false c) (fins m false (far false c)))
          ∗ closed (F := F) c 18
          ∗ owns (c : Thread nD τ) (recvM false) fullShare (two (fins m false (near false c)) (fins m false (far false (near false c)))))
          -∗ Q ⟨⟩)
        -∗ Run c (onBufs k0_part11 c v2 v3 v4) Q) := by
  rw [k0_part11_eq_skeleton]; unfold k0_part11_skel
  simp only [semSignalWord, semWaitWord, Prog.lift, Prog.bind_op, Prog.bind_ret, Prog.pure_eq_ret, wp_deviceId]
  iintro ⟨#Hrec, #Hlev, HO, Hc17, Ho17, Hs0, Hd, Ht7, Hout, Hc9, Ho9, Hc18, Ho18⟩ Hk
  iapply (wait m K c (dst := flat1 (sendM true)) 17 (by decide) (by decide) 1 (by decide) (by decide) r_sem5 rfl) $$ [Hc17 HO Ho17]
  · isplitr; · iexact Hrec
    isplitr; · iexact Hlev
    isplitl [Hc17]; · iexact Hc17
    isplitl [HO]; · iexact HO
    iexact Ho17
  iintro ⟨HO, Ho17, Hs1⟩
  ihave Hs1 := (show pay m 17 c ⊢ owns (c : Thread nD τ) (flat1 (sendM true)) fullShare (flatten (fins m true (far true c))) from .rfl) $$ Hs1
  ihave Hs0 := (flat_elim c (slab0 (sendM true)) fullShare (fins m true c)) $$ Hs0
  ihave Hs1 := (flat_elim c (slab1 (sendM true)) fullShare (fins m true (far true c))) $$ Hs1
  ihave Hs := (two_join c (sendM true) fullShare (fins m true c) (fins m true (far true c))) $$ [Hs0 Hs1]
  · isplitl [Hs0]; · iexact Hs0
    iexact Hs1
  ihave Hs := (owns_halves (c : Thread nD τ) (sendM true) fullShare (two (fins m true c) (fins m true (far true c)))).1 $$ Hs
  icases Hs with ⟨Hl, Hr⟩
  iapply (send m K c (src := sendM true) (dst := recvM true) _ 7 10 19 (dev10_eq c) s_sem7 r_sem7 (two (fins m true c) (fins m true (far true c))) (iprop(emp)) (by decide) (by decide) (by decide) (by decide) rfl rfl .rfl (land7 m c) (owe c 0) rfl) $$ [Hr Hd  HO Ht7]
  · isplitr; · iexact Hrec
    isplitl [Hr]; · iexact Hr
    isplitl [Hd]; · iexact Hd
    isplitr; · iempintro
    isplitl [HO]; · iexact HO
    iexact Ht7
  iintro ⟨Hc10, HO⟩
  ihave Hl := (two_split' c (sendM true) (fullShare : PosShare TreeShare).left (fins m true c) (fins m true (far true c))) $$ Hl
  icases Hl with ⟨Hl0, Hl1⟩
  iapply (load_slice c (sendM true) rect1 _) $$ Hl1
  iintro Hl1
  ihave Hl := (two_join c (sendM true) (fullShare : PosShare TreeShare).left (fins m true c) (fins m true (far true c))) $$ [Hl0 Hl1]
  · isplitl [Hl0]; · iexact Hl0
    iexact Hl1
  iapply (over_out c true _ (off13_eq c) _) $$ Hout
  iintro Hout
  iapply (wait m K c (dst := sendM false) 9 (by decide) (by decide) 0 (by decide) (by decide) s_sem6 rfl) $$ [Hc9 HO Ho9]
  · isplitr; · iexact Hrec
    isplitr; · iexact Hlev
    isplitl [Hc9]; · iexact Hc9
    isplitl [HO]; · iexact HO
    iexact Ho9
  iintro ⟨HO, Ho9, Hs⟩
  ihave Hs := (show pay m 9 c ⊢ owns (c : Thread nD τ) (sendM false) (fullShare : PosShare TreeShare).right (two (fins m false c) (fins m false (far false c))) from .rfl) $$ Hs
  iapply (wait m K c (dst := recvM false) 18 (by decide) (by decide) 0 (by decide) (by decide) r_sem6 rfl) $$ [Hc18 HO Ho18]
  · isplitr; · iexact Hrec
    isplitr; · iexact Hlev
    isplitl [Hc18]; · iexact Hc18
    isplitl [HO]; · iexact HO
    iexact Ho18
  iintro ⟨HO, Ho18, Hr⟩
  ihave Hr := (show pay m 18 c ⊢ owns (c : Thread nD τ) (recvM false) fullShare (two (fins m false (near false c)) (fins m false (far false (near false c)))) from .rfl) $$ Hr
  rw [wp_ret]
  imodintro
  iapply Hk
  isplitl [HO]; · iexact HO
  isplitl [Ho17]; · iexact Ho17
  isplitl [Hc10]; · iexact Hc10
  isplitl [Hl]; · iexact Hl
  isplitl [Hout]; · iexact Hout
  isplitl [Ho9]; · iexact Ho9
  isplitl [Hs]; · iexact Hs
  isplitl [Ho18]; · iexact Ho18
  iexact Hr

/-- Part 12: store the blocks that came from the first half's partner, and the first of those from the second's. -/
theorem part12_run (v3 v4) (Y : Vec F S2048x2048 .f32) {Q : _ → sProp 𝕄} :
    iprop(records m K
        ∗ levAts L lv
        ∗ ow (F := F) c (owe c 0)
        ∗ owns (c : Thread nD τ) (recvM false) fullShare (two (fins m false (near false c)) (fins m false (far false (near false c))))
        ∗ owns (c : Thread nD τ) (oM) fullShare (Y)
        ∗ crd (F := F) c 10
        ∗ opened (F := F) c 10
        ∗ crd (F := F) c 19
        ∗ opened (F := F) c 19)
      ⊢ iprop(((ow (F := F) c (owe c 0)
          ∗ some' (F := F) (c) (recvM false)
          ∗ owns (c : Thread nD τ) (oM) fullShare (put (orect true (near true c)) (k0_pay20 (fins m true (near true c))) (put (orect false (far false (near false c))) (k0_pay20 (fins m false (far false (near false c)))) (put (orect false (near false c)) (k0_pay20 (fins m false (near false c))) Y)))
          ∗ closed (F := F) c 10
          ∗ closed (F := F) c 19
          ∗ owns (c : Thread nD τ) (sendM true) (fullShare : PosShare TreeShare).right (two (fins m true c) (fins m true (far true c)))
          ∗ some' (F := F) (c) (recvM true))
          -∗ Q (k0_pay25 (fins m true (far true (near true c)))))
        -∗ Run c (onBufs k0_part12 c v3 v4) Q) := by
  rw [k0_part12_eq_skeleton]; unfold k0_part12_skel
  simp only [semSignalWord, semWaitWord, Prog.lift, Prog.bind_op, Prog.bind_ret, Prog.pure_eq_ret, wp_deviceId]
  iintro ⟨#Hrec, #Hlev, HO, Hr, Hout, Hc10, Ho10, Hc19, Ho19⟩ Hk
  ihave Hr := (two_split' c (recvM false) fullShare (fins m false (near false c)) (fins m false (far false (near false c)))) $$ Hr
  icases Hr with ⟨Hr0, Hr1⟩
  iapply (load_slice c (recvM false) rect0 _) $$ Hr0
  iintro Hr0
  iapply (over_out c false _ (off14_eq c) _) $$ Hout
  iintro Hout
  iapply (load_slice c (recvM false) rect1 _) $$ Hr1
  iintro Hr1
  iapply (over_out c false _ (off15_eq c) _) $$ Hout
  iintro Hout
  ihave Hr := (two_join c (recvM false) fullShare (fins m false (near false c)) (fins m false (far false (near false c)))) $$ [Hr0 Hr1]
  · isplitl [Hr0]; · iexact Hr0
    iexact Hr1
  ihave Hv := (some_intro c (recvM false) _) $$ Hr
  iapply (wait m K c (dst := sendM true) 10 (by decide) (by decide) 0 (by decide) (by decide) s_sem7 rfl) $$ [Hc10 HO Ho10]
  · isplitr; · iexact Hrec
    isplitr; · iexact Hlev
    isplitl [Hc10]; · iexact Hc10
    isplitl [HO]; · iexact HO
    iexact Ho10
  iintro ⟨HO, Ho10, Ht⟩
  ihave Ht := (show pay m 10 c ⊢ owns (c : Thread nD τ) (sendM true) (fullShare : PosShare TreeShare).right (two (fins m true c) (fins m true (far true c))) from .rfl) $$ Ht
  iapply (wait m K c (dst := recvM true) 19 (by decide) (by decide) 0 (by decide) (by decide) r_sem7 rfl) $$ [Hc19 HO Ho19]
  · isplitr; · iexact Hrec
    isplitr; · iexact Hlev
    isplitl [Hc19]; · iexact Hc19
    isplitl [HO]; · iexact HO
    iexact Ho19
  iintro ⟨HO, Ho19, Hr⟩
  ihave Hr := (show pay m 19 c ⊢ owns (c : Thread nD τ) (recvM true) fullShare (two (fins m true (near true c)) (fins m true (far true (near true c)))) from .rfl) $$ Hr
  ihave Hr := (two_split' c (recvM true) fullShare (fins m true (near true c)) (fins m true (far true (near true c)))) $$ Hr
  icases Hr with ⟨Hr0, Hr1⟩
  iapply (load_slice c (recvM true) rect0 _) $$ Hr0
  iintro Hr0
  iapply (over_out c true _ (off16_eq c) _) $$ Hout
  iintro Hout
  iapply (load_slice c (recvM true) rect1 _) $$ Hr1
  iintro Hr1
  ihave Hr := (two_join c (recvM true) fullShare (fins m true (near true c)) (fins m true (far true (near true c)))) $$ [Hr0 Hr1]
  · isplitl [Hr0]; · iexact Hr0
    iexact Hr1
  ihave Hr := (some_intro c (recvM true) _) $$ Hr
  rw [wp_ret]
  imodintro
  iapply Hk
  isplitl [HO]; · iexact HO
  isplitl [Hv]; · iexact Hv
  isplitl [Hout]; · iexact Hout
  isplitl [Ho10]; · iexact Ho10
  isplitl [Ho19]; · iexact Ho19
  isplitl [Ht]; · iexact Ht
  iexact Hr

end Cert.Exchange
-- ==== Proof.Result.lean ====
/-
# The result's eight half blocks: what the kernel's stores leave
-/
module

public import proofs.«01_k».proof.Proof.Values

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-- Which half, and which block, a row of the result lies in. -/
def halfOf (i : S2048x2048.Idx) : Bool := decide (256 ≤ (i 0).val % 512)
def blockOf (i : S2048x2048.Idx) : Dev nD := ⟨(i 0).val / 512, by have : (i 0).val < 2048 := (i 0).isLt; show (i 0).val / 512 < 4; omega⟩
/-- Where in its half block. -/
def within (i : S2048x2048.Idx) : S256x2048.Idx := fun a => match a with
  | ⟨0, _⟩ => (⟨(i 0).val % 256, Nat.mod_lt _ (by decide)⟩ : Fin 256)
  | ⟨1, _⟩ => (i 1 : Fin 2048)

theorem outAt_eq (i : S2048x2048.Idx) : outAt m c i = outH m (halfOf i) c (blockOf i) (within i) := rfl

/-- An index of the result is that of its place in its half block. -/
theorem emb_within (i : S2048x2048.Idx) : (orect (halfOf i) (blockOf i)).emb (within i) = i := by
  funext a
  have h0 : (i 0).val < 2048 := (i 0).isLt
  match a with
  | ⟨0, _⟩ =>
    refine Fin.ext ?_
    show row0 (halfOf i) (blockOf i) + 1 * ((i 0).val % 256) = (i 0).val
    unfold row0 halfOf blockOf
    by_cases h : 256 ≤ (i 0).val % 512
    · simp only [h, decide_true, if_true]; omega
    · simp only [h, decide_false, Bool.false_eq_true, if_false]; omega
  | ⟨1, _⟩ => exact Fin.ext (by show 0 + 1 * (i 1).val = (i 1).val; omega)

/-- The rows of a half block hold no index of another. -/
theorem rows_of_emb (h : Bool) (k : Dev nD) (x : S256x2048.Idx) : halfOf ((orect h k).emb x) = h ∧ blockOf ((orect h k).emb x) = k := by
  have h0 : (x 0).val < 256 := (x 0).isLt
  have hk : k.val < 4 := k.isLt
  have e : (((orect h k).emb x) 0).val = row0 h k + 1 * (x 0).val := rfl
  cases h
  · have e' : (((orect false k).emb x) 0).val = 512 * k.val + (x 0).val := by rw [e]; simp only [row0, Bool.false_eq_true, if_false]; omega
    exact ⟨by unfold halfOf; rw [e']; exact decide_eq_false (by omega), Fin.ext (by show (((orect false k).emb x) 0).val / 512 = k.val; rw [e']; omega)⟩
  · have e' : (((orect true k).emb x) 0).val = 512 * k.val + 256 + (x 0).val := by rw [e]; simp only [row0, if_true]; omega
    exact ⟨by unfold halfOf; rw [e']; exact decide_eq_true (by omega), Fin.ext (by show (((orect true k).emb x) 0).val / 512 = k.val; rw [e']; omega)⟩

/-- Storing a half block's rows: the result's there, what was there elsewhere. -/
theorem put_rows (h : Bool) (k : Dev nD) (X : Vec F S2048x2048 .f32) (i : S2048x2048.Idx) :
    put (orect h k) (outH m h c k) X i = if halfOf i = h ∧ blockOf i = k then outAt m c i else X i := by
  by_cases e : halfOf i = h ∧ blockOf i = k
  · rw [if_pos e]
    obtain ⟨rfl, rfl⟩ := e
    exact ((congrArg (put (orect (halfOf i) (blockOf i)) (outH m (halfOf i) c (blockOf i)) X) (emb_within i).symm).trans (put_emb _ _ _ _)).trans
      (outAt_eq m c i).symm
  · rw [if_neg e]
    refine put_off _ _ _ fun ⟨x, hx⟩ => e ?_
    rw [← hx]; exact rows_of_emb h k x

theorem blocks (h : Bool) (c k : Dev nD) : k = c ∨ k = far h c ∨ k = near h c ∨ k = far h (near h c) := by revert h c k; decide
theorem far_ne (h : Bool) (c : Dev nD) : far h c ≠ c := by revert h c; decide
theorem near_ne (h : Bool) (c : Dev nD) : near h c ≠ c := by revert h c; decide
theorem far_near_ne (h : Bool) (c : Dev nD) : far h (near h c) ≠ c := by revert h c; decide

theorem outH_self (h : Bool) : outH m h c c = fin m h c := if_pos rfl
theorem outH_other (h : Bool) (k : Dev nD) (e : k ≠ c) : outH m h c k = k0_pay20 (fins m h k) := if_neg e

/-- The eight stores, in the kernel's order, leave the result whatever was there before. -/
theorem stored (Y : Vec F S2048x2048 .f32) :
    put (orect true (far true (near true c))) (k0_pay20 (fins m true (far true (near true c))))
      (put (orect true (near true c)) (k0_pay20 (fins m true (near true c)))
      (put (orect false (far false (near false c))) (k0_pay20 (fins m false (far false (near false c))))
      (put (orect false (near false c)) (k0_pay20 (fins m false (near false c)))
      (put (orect true (far true c)) (k0_pay20 (fins m true (far true c)))
      (put (orect false (far false c)) (k0_pay20 (fins m false (far false c)))
      (put (orect true c) (fin m true c) (put (orect false c) (fin m false c) Y))))))) = outAt m c := by
  funext i
  rw [← outH_other m c true _ (far_near_ne true c), ← outH_other m c true _ (near_ne true c), ← outH_other m c false _ (far_near_ne false c),
    ← outH_other m c false _ (near_ne false c), ← outH_other m c true _ (far_ne true c), ← outH_other m c false _ (far_ne false c),
    ← outH_self m c true, ← outH_self m c false]
  rw [put_rows m c, put_rows m c, put_rows m c, put_rows m c, put_rows m c, put_rows m c, put_rows m c, put_rows m c]
  have hb := blocks (halfOf i) c (blockOf i)
  generalize halfOf i = h at hb ⊢
  generalize blockOf i = k at hb ⊢
  cases h
  · rcases hb with rfl | rfl | rfl | rfl <;> simp
  · rcases hb with rfl | rfl | rfl | rfl <;> simp

end Cert.Exchange
-- ==== Proof.Body.lean ====
/-
# The kernel's body on one device
-/
module

public import proofs.«01_k».proof.Proof.PartsA
public import proofs.«01_k».proof.Proof.PartsB
public import proofs.«01_k».proof.Proof.PartsC
public import proofs.«01_k».proof.Proof.Result

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The positions of a device's seventeen copy semaphores, before and after their round. -/
def openeds (c : Dev nD) : sProp 𝕄 := iprop(opened (F := F) c 3 ∗ opened (F := F) c 4 ∗ opened (F := F) c 5 ∗ opened (F := F) c 6 ∗ opened (F := F) c 7 ∗ opened (F := F) c 8 ∗ opened (F := F) c 9 ∗ opened (F := F) c 10 ∗ opened (F := F) c 11 ∗ opened (F := F) c 12 ∗ opened (F := F) c 13 ∗ opened (F := F) c 14 ∗ opened (F := F) c 15 ∗ opened (F := F) c 16 ∗ opened (F := F) c 17 ∗ opened (F := F) c 18 ∗ opened (F := F) c 19)
def closeds (c : Dev nD) : sProp 𝕄 := iprop(closed (F := F) c 3 ∗ closed (F := F) c 4 ∗ closed (F := F) c 5 ∗ closed (F := F) c 6 ∗ closed (F := F) c 7 ∗ closed (F := F) c 8 ∗ closed (F := F) c 9 ∗ closed (F := F) c 10 ∗ closed (F := F) c 11 ∗ closed (F := F) c 12 ∗ closed (F := F) c 13 ∗ closed (F := F) c 14 ∗ closed (F := F) c 15 ∗ closed (F := F) c 16 ∗ closed (F := F) c 17 ∗ closed (F := F) c 18 ∗ closed (F := F) c 19)

/-- The duties a device pays: a unit to each partner's barrier, the residual's copy, and eight copies. -/
def toks (c : Dev nD) : sProp 𝕄 :=
  iprop(dutyTok ER (barC (near false c)) 0 false ∗ dutyTok ER (barC (near true c)) 0 true ∗ dutyTok ER (dC c 11) 0 false ∗ tok (F := F) 0 3 12 c ∗ tok (F := F) 1 4 13 c ∗ tok (F := F) 2 5 14 c ∗ tok (F := F) 3 6 15 c ∗ tok (F := F) 4 7 16 c ∗ tok (F := F) 5 8 17 c ∗ tok (F := F) 6 9 18 c ∗ tok (F := F) 7 10 19 c)

/-- What a device may wait for: two units at its barrier, and eight copies that come. -/
def credits (c : Dev nD) : sProp 𝕄 := iprop(cred (tallyAt (barC c) () 2) ∗ crd (F := F) c 12 ∗ crd (F := F) c 13 ∗ crd (F := F) c 14 ∗ crd (F := F) c 15 ∗ crd (F := F) c 16 ∗ crd (F := F) c 17 ∗ crd (F := F) c 18 ∗ crd (F := F) c 19)

/-- The nine scratch buffers, at any contents. -/
def scratch (c : Dev nD) : sProp 𝕄 := iprop(some' (F := F) (c) (sendM false) ∗ some' (F := F) (c) (recvM false) ∗ some' (F := F) (c) (accM false) ∗ some' (F := F) (c) (gotM false) ∗ some' (F := F) (c) (sendM true) ∗ some' (F := F) (c) (recvM true) ∗ some' (F := F) (c) (accM true) ∗ some' (F := F) (c) (gotM true) ∗ some' (F := F) (c) (resM))

/-- The residual as a whole. -/
abbrev rM : Memref sig .tc .hbm S2048x2048 .f32 := Memref.whole main_arg1

/-- The block of the residual that the device copies can be taken out of the whole, and put back. -/
theorem res_lend (c : Dev nD) :
    (owns (c : Thread nD τ) rM fullShare (rin m c) : sProp 𝕄)
      ⊢ iprop(owns (c : Thread nD τ) (resSrc c) fullShare (res m c)
        ∗ (owns (c : Thread nD τ) (resSrc c) fullShare (res m c) -∗ owns (c : Thread nD τ) rM fullShare (rin m c))) := by
  iintro H
  ihave H := (owns_slice_split (c : Thread nD τ) rM fullShare (Rect.unit (s := S2048x2048) (k0_off5 c) S512x2048.size (k0_off5_inb c)) (fun _ => rfl) (rin m c)) $$ H
  icases H with ⟨Hs, %f, %hf, Hr⟩
  isplitl [Hs]; · iexact Hs
  iintro Hs
  have e : (Rect.unit (s := S2048x2048) (k0_off5 c) S512x2048.size (k0_off5_inb c)).overlay (rM.view.read (Elt F) f) (res m c) = rin m c := by
    rw [hf]
    funext j
    by_cases hj : j ∈ (Rect.unit (s := S2048x2048) (k0_off5 c) S512x2048.size (k0_off5_inb c)).set
    · obtain ⟨i, rfl⟩ := LoadRect.exists_idx_of_mem _ hj
      exact Rect.overlay_emb _ _ _ i
    · exact Rect.overlay_of_not_mem _ _ _ hj
  have h := owns_slice_join (Ix := Unit) (Name := ℕ) (U := UU) (Lvl := ℕ) (c : Thread nD τ) rM fullShare
    (Rect.unit (s := S2048x2048) (k0_off5 c) S512x2048.size (k0_off5_inb c)) (fun _ => rfl) (res m c) f
  rw [e] at h
  iapply h
  isplitl [Hs]; · iexact Hs
  iexact Hr

/-- A cell past its one round holds zero for good. -/
theorem close (K : Dev nD × Fin 18 → ℕ) (c : Dev nD) (q : ℕ) (h1 : 3 ≤ q) (h2 : q < 20) :
    iprop(records m K ∗ closed (F := F) c q) ⊢ (|={Set.univ}=> semVal (dC c q) 0 : sProp 𝕄) := by
  unfold closed
  iintro ⟨#Hrec, Hat⟩
  ihave Hc := (records_dma m K c q h1 h2) $$ Hrec
  icases Hc with ⟨#Hi, -⟩
  iapply (Rounds.cell_close ER (Rd m) (κ := nm K c q) (Set.mem_univ _) (fun h => h) (R := 0 + 1) (duties_later m _))
  isplitr; · iexact Hi
  iexact Hat

theorem close_bar (K : Dev nD × Fin 18 → ℕ) (c : Dev nD) :
    iprop(records m K ∗ atPos ER (barC c) (0 + 1) ∅ 0) ⊢ (|={Set.univ}=> semVal (barC c) 0 : sProp 𝕄) := by
  iintro ⟨#Hrec, Hat⟩
  ihave Hc := (records_bar m K c) $$ Hrec
  icases Hc with ⟨#Hi, -⟩
  iapply (Rounds.cell_close ER (Rd m) (κ := K (c, 0)) (Set.mem_univ _) (fun h => h) (R := 0 + 1) (duties_later m _))
  isplitr; · iexact Hi
  iexact Hat

/-- All of a device's cells at zero. -/
def zeros (c : Dev nD) : sProp 𝕄 := iprop(semVal (barC c) 0 ∗ semVal (dC c 3) 0 ∗ semVal (dC c 4) 0 ∗ semVal (dC c 5) 0 ∗ semVal (dC c 6) 0 ∗ semVal (dC c 7) 0 ∗ semVal (dC c 8) 0 ∗ semVal (dC c 9) 0 ∗ semVal (dC c 10) 0 ∗ semVal (dC c 11) 0 ∗ semVal (dC c 12) 0 ∗ semVal (dC c 13) 0 ∗ semVal (dC c 14) 0 ∗ semVal (dC c 15) 0 ∗ semVal (dC c 16) 0 ∗ semVal (dC c 17) 0 ∗ semVal (dC c 18) 0 ∗ semVal (dC c 19) 0)

theorem close_all (K : Dev nD × Fin 18 → ℕ) (c : Dev nD) :
    iprop(records m K ∗ atPos ER (barC c) (0 + 1) ∅ 0 ∗ closeds (F := F) c) ⊢ (|={Set.univ}=> zeros (F := F) c : sProp 𝕄) := by
  unfold closeds zeros
  iintro ⟨#Hrec, Hbar, Ho3, Ho4, Ho5, Ho6, Ho7, Ho8, Ho9, Ho10, Ho11, Ho12, Ho13, Ho14, Ho15, Ho16, Ho17, Ho18, Ho19⟩
  imod (close_bar m K c) $$ [Hbar] with Hbar
  · isplitr; · iexact Hrec
    iexact Hbar
  imod (close m K c 3 (by decide) (by decide)) $$ [Ho3] with Ho3
  · isplitr; · iexact Hrec
    iexact Ho3
  imod (close m K c 4 (by decide) (by decide)) $$ [Ho4] with Ho4
  · isplitr; · iexact Hrec
    iexact Ho4
  imod (close m K c 5 (by decide) (by decide)) $$ [Ho5] with Ho5
  · isplitr; · iexact Hrec
    iexact Ho5
  imod (close m K c 6 (by decide) (by decide)) $$ [Ho6] with Ho6
  · isplitr; · iexact Hrec
    iexact Ho6
  imod (close m K c 7 (by decide) (by decide)) $$ [Ho7] with Ho7
  · isplitr; · iexact Hrec
    iexact Ho7
  imod (close m K c 8 (by decide) (by decide)) $$ [Ho8] with Ho8
  · isplitr; · iexact Hrec
    iexact Ho8
  imod (close m K c 9 (by decide) (by decide)) $$ [Ho9] with Ho9
  · isplitr; · iexact Hrec
    iexact Ho9
  imod (close m K c 10 (by decide) (by decide)) $$ [Ho10] with Ho10
  · isplitr; · iexact Hrec
    iexact Ho10
  imod (close m K c 11 (by decide) (by decide)) $$ [Ho11] with Ho11
  · isplitr; · iexact Hrec
    iexact Ho11
  imod (close m K c 12 (by decide) (by decide)) $$ [Ho12] with Ho12
  · isplitr; · iexact Hrec
    iexact Ho12
  imod (close m K c 13 (by decide) (by decide)) $$ [Ho13] with Ho13
  · isplitr; · iexact Hrec
    iexact Ho13
  imod (close m K c 14 (by decide) (by decide)) $$ [Ho14] with Ho14
  · isplitr; · iexact Hrec
    iexact Ho14
  imod (close m K c 15 (by decide) (by decide)) $$ [Ho15] with Ho15
  · isplitr; · iexact Hrec
    iexact Ho15
  imod (close m K c 16 (by decide) (by decide)) $$ [Ho16] with Ho16
  · isplitr; · iexact Hrec
    iexact Ho16
  imod (close m K c 17 (by decide) (by decide)) $$ [Ho17] with Ho17
  · isplitr; · iexact Hrec
    iexact Ho17
  imod (close m K c 18 (by decide) (by decide)) $$ [Ho18] with Ho18
  · isplitr; · iexact Hrec
    iexact Ho18
  imod (close m K c 19 (by decide) (by decide)) $$ [Ho19] with Ho19
  · isplitr; · iexact Hrec
    iexact Ho19
  imodintro
  isplitl [Hbar]; · iexact Hbar
  isplitl [Ho3]; · iexact Ho3
  isplitl [Ho4]; · iexact Ho4
  isplitl [Ho5]; · iexact Ho5
  isplitl [Ho6]; · iexact Ho6
  isplitl [Ho7]; · iexact Ho7
  isplitl [Ho8]; · iexact Ho8
  isplitl [Ho9]; · iexact Ho9
  isplitl [Ho10]; · iexact Ho10
  isplitl [Ho11]; · iexact Ho11
  isplitl [Ho12]; · iexact Ho12
  isplitl [Ho13]; · iexact Ho13
  isplitl [Ho14]; · iexact Ho14
  isplitl [Ho15]; · iexact Ho15
  isplitl [Ho16]; · iexact Ho16
  isplitl [Ho17]; · iexact Ho17
  isplitl [Ho18]; · iexact Ho18
  iexact Ho19

/-- Holding the result after the eight stores is holding the device's result. -/
theorem stored_owns (c : Dev nD) (Y : Vec F S2048x2048 .f32) :
    (owns (c : Thread nD τ) oM fullShare (
    put (orect true (far true (near true c))) (k0_pay20 (fins m true (far true (near true c))))
      (put (orect true (near true c)) (k0_pay20 (fins m true (near true c)))
      (put (orect false (far false (near false c))) (k0_pay20 (fins m false (far false (near false c))))
      (put (orect false (near false c)) (k0_pay20 (fins m false (near false c)))
      (put (orect true (far true c)) (k0_pay20 (fins m true (far true c)))
      (put (orect false (far false c)) (k0_pay20 (fins m false (far false c)))
      (put (orect true c) (fin m true c) (put (orect false c) (fin m false c) Y)))))))) : sProp 𝕄) ⊢ owns (c : Thread nD τ) oM fullShare (outAt m c) :=
  Entails.of_eq (congrArg (owns (c : Thread nD τ) oM fullShare) (stored m c Y))

/-- The whole body on one device: from its ghosts, its buffers and what it owes, to every cell at zero, its buffers back
and the result stored. -/
theorem body_run (K : Dev nD × Fin 18 → ℕ) (c : Dev nD) (Y : Vec F S2048x2048 .f32) {Q : PUnit → sProp 𝕄} :
    iprop(records m K ∗ levAts L lv ∗ atPos ER (barC c) 0 ∅ 0 ∗ openeds (F := F) c ∗ toks (F := F) c ∗ credits (F := F) c ∗ scratch (F := F) c
        ∗ owns (c : Thread nD τ) rM fullShare (rin m c) ∗ ow (F := F) c (O₀ c) ∗ owns (c : Thread nD τ) xM fullShare (xin m c)
        ∗ owns (c : Thread nD τ) gM fullShare (gin m c) ∗ owns (c : Thread nD τ) oM fullShare Y)
      ⊢ iprop(((zeros (F := F) c ∗ scratch (F := F) c ∗ owns (c : Thread nD τ) rM fullShare (rin m c) ∗ ow (F := F) c (owe c 0)
          ∗ owns (c : Thread nD τ) xM fullShare (xin m c) ∗ owns (c : Thread nD τ) gM fullShare (gin m c) ∗ owns (c : Thread nD τ) oM fullShare (outAt m c)) -∗ Q ⟨⟩)
        -∗ Run c (onBufs cc0_body) Q) := by
  rw [cc0_body_eq_skeleton]; unfold cc0_body_skel
  simp only [wp_bind]
  unfold openeds toks credits scratch
  iintro ⟨#Hrec, #Hlev, Hbar, ⟨Ho3, Ho4, Ho5, Ho6, Ho7, Ho8, Ho9, Ho10, Ho11, Ho12, Ho13, Ho14, Ho15, Ho16, Ho17, Ho18, Ho19⟩, ⟨HtA, HtB, Ht11, Ht0, Ht1, Ht2, Ht3, Ht4, Ht5, Ht6, Ht7⟩, ⟨HcB, Hc12, Hc13, Hc14, Hc15, Hc16, Hc17, Hc18, Hc19⟩, ⟨Hs0, Hs1, Hs2, Hs3, Hs4, Hs5, Hs6, Hs7, Hs8⟩, Har, HO, Hx, Hgm, Hout⟩ Hk
  iapply (part1_run m K c) $$ [Hx HO HtA HtB Hs1 Hs7 Hs5 Hs3 Hs0 HcB Hbar]
  · isplitr; · iexact Hrec
    isplitr; · iexact Hlev
    isplitl [Hx]; · iexact Hx
    isplitl [HO]; · iexact HO
    isplitl [HtA]; · iexact HtA
    isplitl [HtB]; · iexact HtB
    isplitl [Hs1]; · iexact Hs1
    isplitl [Hs7]; · iexact Hs7
    isplitl [Hs5]; · iexact Hs5
    isplitl [Hs3]; · iexact Hs3
    isplitl [Hs0]; · iexact Hs0
    isplitl [HcB]; · iexact HcB
    iexact Hbar
  iintro %v2 %v3 %v4 ⟨Hx, HO, Hbar, Hn, Hf, Hsend⟩
  unfold barPay
  icases Hn with ⟨HdRF, HdGT⟩
  icases Hf with ⟨HdRT, HdGF⟩
  iapply (part2_run m K c v2 v3 v4) $$ [Hx HO Hsend HdRF Hs4 HdRT Ht0 Ht1]
  · isplitr; · iexact Hrec
    isplitl [Hx]; · iexact Hx
    isplitl [HO]; · iexact HO
    isplitl [Hsend]; · iexact Hsend
    isplitl [HdRF]; · iexact HdRF
    isplitl [Hs4]; · iexact Hs4
    isplitl [HdRT]; · iexact HdRT
    isplitl [Ht0]; · iexact Ht0
    iexact Ht1
  iintro ⟨Hx, HO, Hc3, Hc4⟩
  ihave Har := (res_lend m c) $$ Har
  icases Har with ⟨Hsrc, Hback⟩
  ihave Hs2 := (some_split c (accM false)) $$ Hs2
  icases Hs2 with ⟨A0, A1⟩
  ihave Hs6 := (some_split c (accM true)) $$ Hs6
  icases Hs6 with ⟨B0, B1⟩
  iapply (part3_run m K c v2) $$ [Hsrc Hs8 Ht11 Hx A0 A1 B0]
  · isplitr; · iexact Hrec
    isplitl [Hsrc]; · iexact Hsrc
    isplitl [Hs8]; · iexact Hs8
    isplitl [Ht11]; · iexact Ht11
    isplitl [Hx]; · iexact Hx
    isplitl [A0]; · iexact A0
    isplitl [A1]; · iexact A1
    iexact B0
  iintro %v90 ⟨Hx, Hc11, A0, A1, B0⟩
  iapply (part4_run m K c v3 v90) $$ [Hx HO B1 Hc3 Ho3 Hc12 Ho12 A0 A1]
  · isplitr; · iexact Hrec
    isplitr; · iexact Hlev
    isplitl [Hx]; · iexact Hx
    isplitl [HO]; · iexact HO
    isplitl [B1]; · iexact B1
    isplitl [Hc3]; · iexact Hc3
    isplitl [Ho3]; · iexact Ho3
    isplitl [Hc12]; · iexact Hc12
    isplitl [Ho12]; · iexact Ho12
    isplitl [A0]; · iexact A0
    iexact A1
  iintro %v117 ⟨Hx, HO, B1, Ho3, Ho12, S0, S1, A0, A1, R0, R1⟩
  ihave A1 := (some_intro c (slab1 (accM false)) _) $$ A1
  ihave S0 := (some_intro c (slab0 (sendM false)) _) $$ S0
  ihave S1 := (some_intro c (slab1 (sendM false)) _) $$ S1
  ihave R0 := (some_intro c (slab0 (recvM false)) _) $$ R0
  ihave R1 := (some_intro c (slab1 (recvM false)) _) $$ R1
  ihave HRF := (some_join c (recvM false)) $$ [R0 R1]
  · isplitl [R0]; · iexact R0
    iexact R1
  iapply (part5_run m K c v4 v117) $$ [HO A1 HdGF S1 Ht2 Hc4 Ho4 Hc13 Ho13 B0 B1]
  · isplitr; · iexact Hrec
    isplitr; · iexact Hlev
    isplitl [HO]; · iexact HO
    isplitl [A1]; · iexact A1
    isplitl [HdGF]; · iexact HdGF
    isplitl [S1]; · iexact S1
    isplitl [Ht2]; · iexact Ht2
    isplitl [Hc4]; · iexact Hc4
    isplitl [Ho4]; · iexact Ho4
    isplitl [Hc13]; · iexact Hc13
    isplitl [Ho13]; · iexact Ho13
    isplitl [B0]; · iexact B0
    iexact B1
  iintro ⟨HO, Hc5, Ho4, Ho13, T0, T1, B0, B1, U0, U1⟩
  ihave B1 := (some_intro c (slab1 (accM true)) _) $$ B1
  ihave T0 := (some_intro c (slab0 (sendM true)) _) $$ T0
  ihave T1 := (some_intro c (slab1 (sendM true)) _) $$ T1
  ihave U0 := (some_intro c (slab0 (recvM true)) _) $$ U0
  iapply (part6_run m K c v3 v4) $$ [HO U1 B1 HdGT T1 HRF Ht3 Hc5 Ho5 Hc14 Ho14 Hc11 Ho11]
  · isplitr; · iexact Hrec
    isplitr; · iexact Hlev
    isplitl [HO]; · iexact HO
    isplitl [U1]; · iexact U1
    isplitl [B1]; · iexact B1
    isplitl [HdGT]; · iexact HdGT
    isplitl [T1]; · iexact T1
    isplitl [HRF]; · iexact HRF
    isplitl [Ht3]; · iexact Ht3
    isplitl [Hc5]; · iexact Hc5
    isplitl [Ho5]; · iexact Ho5
    isplitl [Hc14]; · iexact Hc14
    isplitl [Ho14]; · iexact Ho14
    isplitl [Hc11]; · iexact Hc11
    iexact Ho11
  iintro ⟨HO, U1, Hc6, Ho5, Ho14, Ho11, A1, HG0, HdS, Hres, Hsrc⟩
  ihave U1 := (some_intro c (slab1 (recvM true)) _) $$ U1
  ihave HRT := (some_join c (recvM true)) $$ [U0 U1]
  · isplitl [U0]; · iexact U0
    iexact U1
  iapply (part7_run m K c v4) $$ [HO A0 HG0 Hres Hgm S0 HdS HRT Ht4]
  · isplitr; · iexact Hrec
    isplitl [HO]; · iexact HO
    isplitl [A0]; · iexact A0
    isplitl [HG0]; · iexact HG0
    isplitl [Hres]; · iexact Hres
    isplitl [Hgm]; · iexact Hgm
    isplitl [S0]; · iexact S0
    isplitl [HdS]; · iexact HdS
    isplitl [HRT]; · iexact HRT
    iexact Ht4
  iintro ⟨HO, A0, HG0, Hres, Hgm, Hc7⟩
  iapply (part8_run m K c v2 v3 _) $$ [HO Hout Hc6 Ho6 Hc15 Ho15 B0 Hres]
  · isplitr; · iexact Hrec
    isplitr; · iexact Hlev
    isplitl [HO]; · iexact HO
    isplitl [Hout]; · iexact Hout
    isplitl [Hc6]; · iexact Hc6
    isplitl [Ho6]; · iexact Ho6
    isplitl [Hc15]; · iexact Hc15
    isplitl [Ho15]; · iexact Ho15
    isplitl [B0]; · iexact B0
    iexact Hres
  iintro ⟨HO, Hout, Ho6, Ho15, B0, Hres, B1, HG1, HdT, HdRF⟩
  iapply (part9_run m K c v2 v3 _) $$ [HO Hgm T0 HdT Ht5 Hout Hc7 Ho7]
  · isplitr; · iexact Hrec
    isplitr; · iexact Hlev
    isplitl [HO]; · iexact HO
    isplitl [Hgm]; · iexact Hgm
    isplitl [T0]; · iexact T0
    isplitl [HdT]; · iexact HdT
    isplitl [Ht5]; · iexact Ht5
    isplitl [Hout]; · iexact Hout
    isplitl [Hc7]; · iexact Hc7
    iexact Ho7
  iintro ⟨HO, Hgm, Hc8, Hout, Ho7, S0⟩
  iapply (part10_run m K c v2 v3 v4 _) $$ [HO Hc16 Ho16 S0 HdRF Ht6 Hout Hc8 Ho8]
  · isplitr; · iexact Hrec
    isplitr; · iexact Hlev
    isplitl [HO]; · iexact HO
    isplitl [Hc16]; · iexact Hc16
    isplitl [Ho16]; · iexact Ho16
    isplitl [S0]; · iexact S0
    isplitl [HdRF]; · iexact HdRF
    isplitl [Ht6]; · iexact Ht6
    isplitl [Hout]; · iexact Hout
    isplitl [Hc8]; · iexact Hc8
    iexact Ho8
  iintro ⟨HO, Ho16, HdRT, Hc9, HlF, Hout, Ho8, T0⟩
  iapply (part11_run m K c v2 v3 v4 _) $$ [HO Hc17 Ho17 T0 HdRT Ht7 Hout Hc9 Ho9 Hc18 Ho18]
  · isplitr; · iexact Hrec
    isplitr; · iexact Hlev
    isplitl [HO]; · iexact HO
    isplitl [Hc17]; · iexact Hc17
    isplitl [Ho17]; · iexact Ho17
    isplitl [T0]; · iexact T0
    isplitl [HdRT]; · iexact HdRT
    isplitl [Ht7]; · iexact Ht7
    isplitl [Hout]; · iexact Hout
    isplitl [Hc9]; · iexact Hc9
    isplitl [Ho9]; · iexact Ho9
    isplitl [Hc18]; · iexact Hc18
    iexact Ho18
  iintro ⟨HO, Ho17, Hc10, HlT, Hout, Ho9, HrF, Ho18, HRF⟩
  iapply (part12_run m K c v3 v4 _) $$ [HO HRF Hout Hc10 Ho10 Hc19 Ho19]
  · isplitr; · iexact Hrec
    isplitr; · iexact Hlev
    isplitl [HO]; · iexact HO
    isplitl [HRF]; · iexact HRF
    isplitl [Hout]; · iexact Hout
    isplitl [Hc10]; · iexact Hc10
    isplitl [Ho10]; · iexact Ho10
    isplitl [Hc19]; · iexact Hc19
    iexact Ho19
  iintro ⟨HO, HRF, Hout, Ho10, Ho19, HrT, HRT⟩
  simp only [← wp_bind]
  simp only [Prog.lift, Prog.bind_op, Prog.bind_ret, Prog.pure_eq_ret]
  rw [show k0_pay25 (fins m true (far true (near true c))) = k0_pay20 (fins m true (far true (near true c))) from rfl]
  iapply (over_out c true (far true (near true c)) (off17_eq c) _) $$ Hout
  iintro Hout
  ihave Hout := (stored_owns m c Y) $$ Hout
  rw [wp_ret]
  ihave SF := (owns_halves (c : Thread nD τ) (sendM false) fullShare (two (fins m false c) (fins m false (far false c)))).2 $$ [HlF HrF]
  · isplitl [HlF]; · iexact HlF
    iexact HrF
  ihave SF := (some_intro c (sendM false) _) $$ SF
  ihave ST := (owns_halves (c : Thread nD τ) (sendM true) fullShare (two (fins m true c) (fins m true (far true c)))).2 $$ [HlT HrT]
  · isplitl [HlT]; · iexact HlT
    iexact HrT
  ihave ST := (some_intro c (sendM true) _) $$ ST
  ihave A1 := (flat_elim c (slab1 (accM false)) fullShare (acc1 m false c)) $$ A1
  ihave A0 := (some_intro c (slab0 (accM false)) _) $$ A0
  ihave A1 := (some_intro c (slab1 (accM false)) _) $$ A1
  ihave A := (some_join c (accM false)) $$ [A0 A1]
  · isplitl [A0]; · iexact A0
    iexact A1
  ihave B1 := (flat_elim c (slab1 (accM true)) fullShare (acc1 m true c)) $$ B1
  ihave B0 := (some_intro c (slab0 (accM true)) _) $$ B0
  ihave B1 := (some_intro c (slab1 (accM true)) _) $$ B1
  ihave B := (some_join c (accM true)) $$ [B0 B1]
  · isplitl [B0]; · iexact B0
    iexact B1
  ihave HG0 := (some_intro c (gotM false) _) $$ HG0
  ihave HG1 := (some_intro c (gotM true) _) $$ HG1
  ihave Hres := (some_intro c (resM) _) $$ Hres
  ihave Har := Hback $$ Hsrc
  imod (close_all m K c) $$ [Hbar Ho3 Ho4 Ho5 Ho6 Ho7 Ho8 Ho9 Ho10 Ho11 Ho12 Ho13 Ho14 Ho15 Ho16 Ho17 Ho18 Ho19]
    with Hz
  · isplitr; · iexact Hrec
    isplitl [Hbar]; · iexact Hbar
    unfold closeds
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Ho16]; · iexact Ho16
    isplitl [Ho17]; · iexact Ho17
    isplitl [Ho18]; · iexact Ho18
    iexact Ho19
  imodintro
  iapply Hk
  isplitl [Hz]; · iexact Hz
  isplitl [SF HRF A HG0 ST HRT B HG1 Hres]
  · isplitl [SF]; · iexact SF
    isplitl [HRF]; · iexact HRF
    isplitl [A]; · iexact A
    isplitl [HG0]; · iexact HG0
    isplitl [ST]; · iexact ST
    isplitl [HRT]; · iexact HRT
    isplitl [B]; · iexact B
    isplitl [HG1]; · iexact HG1
    iexact Hres
  isplitl [Har]; · iexact Har
  isplitl [HO]; · iexact HO
  isplitl [Hx]; · iexact Hx
  isplitl [Hgm]; · iexact Hgm
  iexact Hout

end Cert.Exchange
-- ==== Proof.Deal.lean ====
/-
# The ghost state at launch

Every cell's invariant is made from its semaphore at zero; the rights to count at a cell are made with the cell and
dealt to the device that pays there.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the rights -/

/-- The semaphores of one device, numbered as the cells are. -/
abbrev csem (k : Fin 18) : SemLoc sig := if k = 0 then .reg barS else .dma (dn (k.val + 2))

theorem csem_inj : Function.Injective csem := by decide +kernel

theorem kcell_eq (p : Dev nD × Fin 18) : kcell p = ((p.1 : Thread nD τ), csem p.2) := by
  unfold kcell csem; split <;> rfl

theorem kcell_inj : Function.Injective kcell := fun p q h => by
  rw [kcell_eq, kcell_eq] at h
  exact Prod.ext (congrArg (fun g : GSem nD τ sig => g.1.1) h) (csem_inj (congrArg Prod.snd h))

/-- Every cell of the exchange. -/
def cells : Finset (GSem nD τ sig) := Finset.univ.map ⟨kcell, kcell_inj⟩

/-- A device's rights as they are first made, by cell: one per cell, and the barrier's second. -/
def right (p : Dev nD × Option (Fin 18)) : GSem nD τ sig × ℕ × Bool :=
  match p.2 with
  | none => (barC p.1, 0, true)
  | some k => (kcell (p.1, k), 0, false)

theorem right_inj : Function.Injective right := by
  rintro ⟨c, _ | k⟩ ⟨d, _ | j⟩ h
  · exact Prod.ext (congrArg (fun x : GSem nD τ sig × ℕ × Bool => x.1.1.1) h) rfl
  · exact Bool.noConfusion (show true = false from congrArg (fun x : GSem nD τ sig × ℕ × Bool => x.2.2) h)
  · exact Bool.noConfusion (show false = true from congrArg (fun x : GSem nD τ sig × ℕ × Bool => x.2.2) h)
  · have e : (c, k) = (d, j) := kcell_inj (congrArg Prod.fst h)
    exact Prod.ext (show c = d from congrArg Prod.fst e) (congrArg some (show k = j from congrArg Prod.snd e))

def rights : Finset (GSem nD τ sig × ℕ × Bool) := Finset.univ.map ⟨right, right_inj⟩

/-- The rights of device `c`'s own cells. -/
def made (c : Dev nD) : sProp 𝕄 :=
  iprop(dutyTok ER (barC c) 0 true ∗ dutyTok ER (barC c) 0 false ∗ dutyTok ER (dC c 3) 0 false ∗ dutyTok ER (dC c 4) 0 false ∗ dutyTok ER (dC c 5) 0 false ∗ dutyTok ER (dC c 6) 0 false ∗ dutyTok ER (dC c 7) 0 false ∗ dutyTok ER (dC c 8) 0 false ∗ dutyTok ER (dC c 9) 0 false ∗ dutyTok ER (dC c 10) 0 false ∗ dutyTok ER (dC c 11) 0 false ∗ dutyTok ER (dC c 12) 0 false ∗ dutyTok ER (dC c 13) 0 false ∗ dutyTok ER (dC c 14) 0 false ∗ dutyTok ER (dC c 15) 0 false ∗ dutyTok ER (dC c 16) 0 false ∗ dutyTok ER (dC c 17) 0 false ∗ dutyTok ER (dC c 18) 0 false ∗ dutyTok ER (dC c 19) 0 false)

theorem made_eq (c : Dev nD) :
    (bigSep Finset.univ fun k : Option (Fin 18) => (dutyTok ER (right (c, k)).1 (right (c, k)).2.1 (right (c, k)).2.2 : sProp 𝕄)) = made (F := F) c :=
  bigSep_univ_eq_bigSepL [none, some 0, some 1, some 2, some 3, some 4, some 5, some 6, some 7, some 8, some 9, some 10, some 11, some 12, some 13, some 14, some 15, some 16, some 17] (by decide) (by decide) _

/-- The positions of a device's cells before their round. -/
def begun (c : Dev nD) : sProp 𝕄 := iprop(atPos ER (barC c) 0 ∅ 0 ∗ openeds (F := F) c)

theorem begun_eq (c : Dev nD) : (bigSep Finset.univ fun k : Fin 18 => (atPos ER (kcell (c, k)) 0 ∅ 0 : sProp 𝕄)) = begun (F := F) c :=
  bigSep_univ_eq_bigSepL [0, 1, 2, 3, 4, 5, 6, 7, 8, 9, 10, 11, 12, 13, 14, 15, 16, 17] (by decide) (by decide) _

/-- What the launch gives device `c` at first: its cells' states, its positions, that round 0 is reached, its rights. -/
def G (c : Dev nD) : sProp 𝕄 :=
  iprop((bigSep Finset.univ fun k : Fin 18 => roundState ER (Rd m) (kcell (c, k)) 0)
    ∗ (bigSep Finset.univ fun k : Fin 18 => reached ER (kcell (c, k)) 0) ∗ begun (F := F) c ∗ made (F := F) c)

/-- What device `c` starts from, once every cell's invariant is made and the rights are dealt to those who pay. -/
def G' (c : Dev nD) : sProp 𝕄 := iprop(∃ K, records m K ∗ begun (F := F) c ∗ toks (F := F) c)

/-- The exchange's ghost state, dealt by device. -/
theorem fund_cells : BI.own (ER (initOf cells rights)) ⊢ (|==> bigSep Finset.univ (G m) : sProp 𝕄) := by
  have hc (Φ : GSem nD τ sig → sProp 𝕄) : bigSep cells Φ = bigSep Finset.univ fun c : Dev nD => bigSep Finset.univ fun k : Fin 18 => Φ (kcell (c, k)) := by
    unfold cells; rw [bigSep_map, bigSep_univ_prod]; rfl
  have ha : bigSep cells (fun g => (atPos ER g 0 ∅ 0 : sProp 𝕄)) = bigSep Finset.univ fun c : Dev nD => begun (F := F) c := by
    rw [hc]; exact bigSep_congr fun c _ => begun_eq c
  have ht : bigSep rights (fun x => (dutyTok ER x.1 x.2.1 x.2.2 : sProp 𝕄)) = bigSep Finset.univ fun c : Dev nD => made (F := F) c := by
    unfold rights; rw [bigSep_map, bigSep_univ_prod]; exact bigSep_congr fun c _ => made_eq c
  iintro H
  imod (Rounds.fund ER (Rd m) cells rights) $$ H with ⟨Hst, Hr, Hat, Ht⟩
  imodintro
  ihave Hst := (Entails.of_eq (hc fun g => roundState ER (Rd m) g 0)) $$ Hst
  ihave Hr := (Entails.of_eq (hc fun g => reached ER g 0)) $$ Hr
  ihave Hat := (Entails.of_eq ha) $$ Hat
  ihave Ht := (Entails.of_eq ht) $$ Ht
  unfold G; simp only [bigSep_sep']
  isplitl [Hst]; · iexact Hst
  isplitl [Hr]; · iexact Hr
  isplitl [Hat]; · iexact Hat
  iexact Ht

/-! ## The semaphores at zero -/

/-- The kernel's own semaphores. -/
abbrev osem (k : Fin 17) : SemLoc sig := .dma (dn (k.val + 3))

theorem ownSems_eq (c : Dev nD) : (Pipeline.ownSems0 (Ix := Unit) (Name := ℕ) (U := UU) (Lvl := ℕ) (Val := Elt F) (τ := τ) osem c : sProp 𝕄)
    = iprop(semVal (dC c 3) 0 ∗ semVal (dC c 4) 0 ∗ semVal (dC c 5) 0 ∗ semVal (dC c 6) 0 ∗ semVal (dC c 7) 0 ∗ semVal (dC c 8) 0 ∗ semVal (dC c 9) 0 ∗ semVal (dC c 10) 0 ∗ semVal (dC c 11) 0 ∗ semVal (dC c 12) 0 ∗ semVal (dC c 13) 0 ∗ semVal (dC c 14) 0 ∗ semVal (dC c 15) 0 ∗ semVal (dC c 16) 0 ∗ semVal (dC c 17) 0 ∗ semVal (dC c 18) 0 ∗ semVal (dC c 19) 0) :=
  Pipeline.ownSems0_eq_of_list c osem [0, 1, 2, 3, 4, 5, 6, 7, 8, 9, 10, 11, 12, 13, 14, 15, 16] (by decide) (by decide)

/-- The barrier's is the one semaphore that outlives the kernel. -/
theorem unscopedSems_eq (c : Dev nD) : (unscopedSems0 c : sProp 𝕄) = semVal (barC c) 0 := by
  unfold unscopedSems0; rw [bigSep_eq_bigSepL_of_eq [SemLoc.reg barS] (by decide) (by decide)]; rfl

theorem zeros_eq (c : Dev nD) :
    zeros (F := F) c = iprop(unscopedSems0 c ∗ Pipeline.ownSems0 (Ix := Unit) (Name := ℕ) (U := UU) (Lvl := ℕ) (Val := Elt F) (τ := τ) osem c) := by
  rw [ownSems_eq, unscopedSems_eq]; rfl

theorem zeros_cells (c : Dev nD) : (bigSep Finset.univ fun k : Fin 18 => (semVal (kcell (c, k)) 0 : sProp 𝕄)) = zeros (F := F) c :=
  bigSep_univ_eq_bigSepL [0, 1, 2, 3, 4, 5, 6, 7, 8, 9, 10, 11, 12, 13, 14, 15, 16, 17] (by decide) (by decide) _

/-! ## The invariants, and the deal -/

/-- Every cell's invariant of one device. -/
theorem make_cells (c : Dev nD) :
    iprop(zeros (F := F) c ∗ bigSep Finset.univ fun k : Fin 18 => roundState ER (Rd m) (kcell (c, k)) 0)
      ⊢ (|={Set.univ}=> bigSep Finset.univ fun k => iprop(∃ κ : ℕ, cellInv ER (Rd m) κ (kcell (c, k))) : sProp 𝕄) := by
  rw [← zeros_cells, ← bigSep_sep']
  exact (bigSep_mono fun k _ => (Rounds.body_intro ER (Rd m) (kcell (c, k))).trans inv_alloc).trans (bigSep_fupd _ _)

/-- What one device has once its invariants are made. -/
def ready (c : Dev nD) : sProp 𝕄 :=
  iprop((bigSep Finset.univ fun k : Fin 18 => iprop(∃ κ : ℕ, cellInv ER (Rd m) κ (kcell (c, k))))
    ∗ (bigSep Finset.univ fun k : Fin 18 => reached ER (kcell (c, k)) 0) ∗ begun (F := F) c ∗ made (F := F) c)

theorem make_ready (c : Dev nD) :
    iprop(Pipeline.ownSems0 (Ix := Unit) (Name := ℕ) (U := UU) (Lvl := ℕ) (Val := Elt F) (τ := τ) osem c ∗ unscopedSems0 c ∗ G m c)
      ⊢ (|={Set.univ}=> ready m c : sProp 𝕄) := by
  unfold G ready
  iintro ⟨Ho, Hu, Hst, Hr, Hat, Ht⟩
  imod (make_cells m c) $$ [Ho Hu Hst] with Hi
  · isplitr [Hst]
    · rw [zeros_eq]
      isplitl [Hu]; · iexact Hu
      iexact Ho
    iexact Hst
  imodintro
  isplitl [Hi]; · iexact Hi
  isplitl [Hr]; · iexact Hr
  isplitl [Hat]; · iexact Hat
  iexact Ht

/-- A family over the devices, read through a pairing of the devices. -/
theorem across (f : Dev nD → Dev nD) (hf : ∀ c, f (f c) = c) (Φ : Dev nD → sProp 𝕄) :
    bigSep Finset.univ Φ ⊢ bigSep Finset.univ fun c => Φ (f c) :=
  Entails.of_eq (bigSep_univ_equiv ⟨f, f, hf, hf⟩ Φ)

/-- The rights go from the cells' devices to the devices that pay: a landing's to the sender, a barrier's to a partner. -/
theorem deal : (bigSep Finset.univ fun c : Dev nD => made (F := F) c) ⊢ (bigSep Finset.univ fun c : Dev nD => toks (F := F) c : sProp 𝕄) := by
  unfold made toks tok
  simp only [bigSep_sep']
  iintro ⟨Hb1, Hb0, H3, H4, H5, H6, H7, H8, H9, H10, H11, H12, H13, H14, H15, H16, H17, H18, H19⟩
  isplitl [Hb0]; · iapply (across (near false) (near_near false) fun c => dutyTok ER (barC c) 0 false) $$ Hb0
  isplitl [Hb1]; · iapply (across (near true) (near_near true) fun c => dutyTok ER (barC c) 0 true) $$ Hb1
  isplitl [H11]; · iexact H11
  isplitl [H3 H12]
  · isplitl [H3]; · iexact H3
    iapply (across (tgt 0) (tgt_tgt 0) fun c => dutyTok ER (dC c 12) 0 false) $$ H12
  isplitl [H4 H13]
  · isplitl [H4]; · iexact H4
    iapply (across (tgt 1) (tgt_tgt 1) fun c => dutyTok ER (dC c 13) 0 false) $$ H13
  isplitl [H5 H14]
  · isplitl [H5]; · iexact H5
    iapply (across (tgt 2) (tgt_tgt 2) fun c => dutyTok ER (dC c 14) 0 false) $$ H14
  isplitl [H6 H15]
  · isplitl [H6]; · iexact H6
    iapply (across (tgt 3) (tgt_tgt 3) fun c => dutyTok ER (dC c 15) 0 false) $$ H15
  isplitl [H7 H16]
  · isplitl [H7]; · iexact H7
    iapply (across (tgt 4) (tgt_tgt 4) fun c => dutyTok ER (dC c 16) 0 false) $$ H16
  isplitl [H8 H17]
  · isplitl [H8]; · iexact H8
    iapply (across (tgt 5) (tgt_tgt 5) fun c => dutyTok ER (dC c 17) 0 false) $$ H17
  isplitl [H9 H18]
  · isplitl [H9]; · iexact H9
    iapply (across (tgt 6) (tgt_tgt 6) fun c => dutyTok ER (dC c 18) 0 false) $$ H18
  isplitl [H10]; · iexact H10
  iapply (across (tgt 7) (tgt_tgt 7) fun c => dutyTok ER (dC c 19) 0 false) $$ H19

/-- Beside a fact that may be used again and again, a family is turned member by member. -/
theorem each_with {S : Finset (Dev nD)} {R : sProp 𝕄} [BI.Persistent R] {Φ Ψ : Dev nD → sProp 𝕄} (h : ∀ i, iprop(R ∗ Φ i) ⊢ Ψ i) :
    iprop(R ∗ bigSep S Φ) ⊢ bigSep S Ψ := by
  refine (sep_mono_left (BI.bigSep_of_persistent S R)).trans ?_
  rw [← bigSep_sep']
  exact bigSep_mono fun i _ => h i

theorem start_each (K : Dev nD × Fin 18 → ℕ) (c : Dev nD) : iprop(records m K ∗ begun (F := F) c ∗ toks (F := F) c) ⊢ G' m c := by
  unfold G'; iintro H; iexists K; iexact H

theorem ready_start : (bigSep Finset.univ fun c : Dev nD => ready m c) ⊢ (bigSep Finset.univ (G' m) : sProp 𝕄) := by
  unfold ready
  simp only [bigSep_sep']
  rw [← bigSep_univ_prod (fun p : Dev nD × Fin 18 => iprop(∃ κ : ℕ, cellInv ER (Rd m) κ (kcell p))),
    ← bigSep_univ_prod (fun p : Dev nD × Fin 18 => (reached ER (kcell p) 0 : sProp 𝕄))]
  iintro ⟨Hi, #Hr, Hat, Ht⟩
  ihave Hi := (BI.bigSep_exists_pi Finset.univ (fun (p : Dev nD × Fin 18) (κ : ℕ) => (cellInv ER (Rd m) κ (kcell p) : sProp 𝕄))) $$ Hi
  icases Hi with ⟨%K, #Hi⟩
  ihave Ht := (deal (F := F)) $$ Ht
  iapply (each_with (R := records m K) fun c => start_each m K c)
  isplitr
  · unfold records
    rw [bigSep_sep']
    isplitl; · iexact Hi
    iexact Hr
  rw [bigSep_sep']
  isplitl [Hat]; · iexact Hat
  iexact Ht

/-- All devices at once: from the semaphores at zero and what each was given, to what each starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => make_ready m c).trans (bigSep_fupd _ _)).trans (BI.fupd_mono (ready_start m))

end Cert.Exchange
-- ==== Proof.Credit.lean ====
/-
# The credit at launch

What the devices together owe a cell is what its device may wait for there.
-/
module

public import proofs.«01_k».proof.Proof.Deal

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What each device owes each cell -/

theorem dma_bar (c d : Dev nD) (q : ℕ) : (barC c : GSem nD τ sig) ≠ dC d q := fun h => nomatch (show SemLoc.reg barS = SemLoc.dma (dn q) from congrArg Prod.snd h)

theorem owe_bar (d c : Dev nD) : ∀ k, owe d k (barC c) () = 0
  | 0 => rfl
  | k + 1 => by
    unfold owe
    rw [Pi.add_apply, Finsupp.add_apply, owe_bar d c k, tallyAt_ne_cell (dma_bar c _ _), Finsupp.zero_apply, Nat.add_zero]

theorem barC_iff {a b : Dev nD} : Iff (barC a = barC b) (a = b) :=
  ⟨fun h => congrArg (fun g : GSem nD τ sig => g.1.1) h, fun h => h ▸ rfl⟩

theorem dC_iff {a b : Dev nD} {q r : ℕ} (hq : q < 20) (hr : r < 20) : Iff (dC a q = dC b r) (a = b ∧ q = r) := by
  constructor
  · intro h
    refine ⟨congrArg (fun g : GSem nD τ sig => g.1.1) h, ?_⟩
    have e : dn q = dn r := SemLoc.dma.inj (congrArg Prod.snd h)
    have v := congrArg Fin.val e
    rwa [dn_val hq, dn_val hr] at v
  · rintro ⟨rfl, rfl⟩; rfl

/-- A landing cell is owed the copy's credit by the one device that sends there, once the copy is among those to come. -/
theorem owe_dma (d c : Dev nD) (i : ℕ) (hi : i < 8) : ∀ k, k ≤ 8 → owe d k (dC c (12 + i)) () = if 7 - i < k ∧ d = tgt i c then amt (12 + i) else 0
  | 0, _ => by rw [if_neg fun h => absurd h.1 (Nat.not_lt_zero _)]; rfl
  | k + 1, hk => by
    unfold owe
    rw [Pi.add_apply, Finsupp.add_apply, owe_dma d c i hi k (by omega), tallyAt_apply]
    by_cases e : k = 7 - i
    · have h1 : 7 - k = i := by omega
      have h2 : 19 - k = 12 + i := by omega
      rw [h1, h2, if_neg (fun h => by omega), Nat.zero_add]
      by_cases hd : d = tgt i c
      · rw [if_pos ⟨by rw [hd, tgt_tgt], rfl⟩, if_pos ⟨by omega, hd⟩]
      · rw [if_neg (fun h => hd (by rw [((dC_iff (by omega) (by omega)).mp h.1).1, tgt_tgt])), if_neg fun h => hd h.2]
    · rw [if_neg (show ¬(dC c (12 + i) = dC (tgt (7 - k) d) (19 - k) ∧ () = ()) from fun h => e (by have := ((dC_iff (by omega) (by omega)).mp h.1).2; omega)), Nat.add_zero]
      by_cases hd : d = tgt i c ∧ 7 - i < k
      · rw [if_pos ⟨hd.2, hd.1⟩, if_pos ⟨by omega, hd.1⟩]
      · rw [if_neg fun h => hd ⟨h.2, h.1⟩, if_neg fun h => hd ⟨h.2, by omega⟩]

theorem owed_bar (d c : Dev nD) : O₀ d (barC c) () = (if d = q2 c then 1 else 0) + if d = q1 c then 1 else 0 := by
  unfold O₀ O₁
  rw [Pi.add_apply, Finsupp.add_apply, Pi.add_apply, Finsupp.add_apply, owe_bar, Nat.zero_add, tallyAt_apply, tallyAt_apply]
  congr 1
  · exact if_congr ⟨fun h => by rw [barC_iff.mp h.1, q2_q2], fun h => ⟨by rw [h, q2_q2], rfl⟩⟩ rfl rfl
  · exact if_congr ⟨fun h => by rw [barC_iff.mp h.1, q1_q1], fun h => ⟨by rw [h, q1_q1], rfl⟩⟩ rfl rfl

theorem owed_dma (d c : Dev nD) (i : ℕ) (hi : i < 8) : O₀ d (dC c (12 + i)) () = if d = tgt i c then amt (12 + i) else 0 := by
  unfold O₀ O₁
  rw [Pi.add_apply, Finsupp.add_apply, Pi.add_apply, Finsupp.add_apply, owe_dma d c i hi 8 (Nat.le_refl 8),
    tallyAt_ne_cell (fun h => dma_bar _ _ _ h.symm), tallyAt_ne_cell (fun h => dma_bar _ _ _ h.symm), Finsupp.zero_apply, Nat.add_zero, Nat.add_zero]
  exact if_congr ⟨fun h => h.2, fun h => ⟨by omega, h⟩⟩ rfl rfl

/-! ## The credit at launch -/

theorem credit_bar (c : Dev nD) :
    tallyOn (barC c) (launchCredit (Pipeline.owing O₀) 0 (barC c)) = (tallyAt (barC c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib,
    Finset.sum_ite_eq' Finset.univ (q2 c) fun _ => 1, Finset.sum_ite_eq' Finset.univ (q1 c) fun _ => 1, if_pos (Finset.mem_univ _), if_pos (Finset.mem_univ _)]

theorem credit_dma (c : Dev nD) (i : ℕ) (hi : i < 8) :
    tallyOn (dC c (12 + i)) (launchCredit (Pipeline.owing O₀) 0 (dC c (12 + i))) = (tallyAt (dC c (12 + i)) () (amt (12 + i)) : CellTallies nD τ sig Unit) := by
  unfold tallyAt
  refine congrArg _ (Finsupp.ext fun u => ?_)
  cases u
  rw [Pipeline.launchCredit_owing, Finsupp.single_eq_same, Finset.sum_congr rfl fun d _ => owed_dma d c i hi,
    Finset.sum_ite_eq' Finset.univ (tgt i c) fun _ => amt (12 + i), if_pos (Finset.mem_univ _)]

/-- The semaphores a device waits on for others: its barrier, and the eight landings. -/
abbrev wsem (k : Fin 9) : SemLoc sig := if k = 0 then .reg barS else .dma (dn (k.val + 11))

theorem wsem_inj : Function.Injective wsem := by decide +kernel

/-- Of all the launch credits of a device, those the exchange uses. -/
theorem credits_of_launch (c : Dev nD) : (Pipeline.launchCred O₀ c : sProp 𝕄) ⊢ credits (F := F) c := by
  unfold Pipeline.launchCred
  have h := BI.bigSep_subset (M := 𝕄) (Finset.subset_univ (Finset.univ.map ⟨wsem, wsem_inj⟩))
    (Φ := fun sm : SemLoc sig => (cred (tallyOn ((c : Thread nD τ), sm) (launchCredit (Pipeline.owing O₀) 0 ((c : Thread nD τ), sm))) : sProp 𝕄))
  refine h.trans ?_
  rw [BI.bigSep_map, bigSep_univ_eq_bigSepL [0, 1, 2, 3, 4, 5, 6, 7, 8] (by decide) (by decide)]
  unfold credits
  have hb := congrArg (fun t => (cred t : sProp 𝕄)) (credit_bar c)
  have hd (i q : ℕ) (hi : i < 8) (hq : q = 12 + i) : crd (F := F) c q = cred (tallyOn (dC c q) (launchCredit (Pipeline.owing O₀) 0 (dC c q))) := by
    subst hq; exact (congrArg (fun t => (cred t : sProp 𝕄)) (credit_dma c i hi)).symm
  rw [← hb, hd 0 12 (by decide) rfl, hd 1 13 (by decide) rfl, hd 2 14 (by decide) rfl, hd 3 15 (by decide) rfl, hd 4 16 (by decide) rfl,
    hd 5 17 (by decide) rfl, hd 6 18 (by decide) rfl, hd 7 19 (by decide) rfl]
  exact fun x h => h

end Cert.Exchange
-- ==== Proof.Launch.lean ====
/-
# The run

The launch of the kernel on the four devices: what it hands each device's body, what it takes back, and what the arrays
hold at the end.
-/
module

public import proofs.«01_k».proof.Proof.Credit
public import Idealize.ShloMosaic.Lib.Pipeline.Quiescent

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-- Before the exchange: the ghost state, the credits, the levels, the residual and the scratch buffers. -/
def start (c : Dev nD) : sProp 𝕄 := iprop(G' m c ∗ credits (F := F) c ∗ levAts L lv ∗ owns (c : Thread nD τ) rM fullShare (rin m c))
def Φ₀ (c : Dev nD) : sProp 𝕄 := iprop(start m c ∗ scratch (F := F) c)
/-- After it: the semaphores at zero, the residual unchanged and the scratch buffers at whatever they were left at. -/
def Φ₁ (c : Dev nD) : sProp 𝕄 := iprop(zeros (F := F) c ∗ scratch (F := F) c ∗ owns (c : Thread nD τ) rM fullShare (rin m c))

/-- The memory at launch. -/
abbrev s₀ : MemSt nD τ sig (Elt F) := ⟨m, fun _ => 0, ρ⟩

/-- What the launch moves in and out: the two staged inputs are left alone, the staged result is the computed one. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => gin m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem before_x (c : Dev nD) (d) : (dats m ρ 0 c).before (0 : Fin 3) t0_0 d = xin m c := by
  unfold Dat.before; rw [if_pos (fetch0_0 t0_0)]
  exact Memref.read_access_unit_zero (Elt F) main_arg0 (off := fun a => win0_0.index t0_0 a * main_arg0.ty.shape.size a) (funext fun a => by fin_cases a <;> decide) (fun a => by fin_cases a <;> decide) _

theorem before_g (c : Dev nD) (d) : (dats m ρ 0 c).before (1 : Fin 3) t0_0 d = gin m c := by
  unfold Dat.before; rw [if_pos (fetch0_1 t0_0)]
  exact Memref.read_access_unit_zero (Elt F) main_arg2 (off := fun a => win0_1.index t0_0 a * main_arg2.ty.shape.size a) (funext fun a => by fin_cases a <;> decide) (fun a => by fin_cases a <;> decide) _

/-! ## The body -/

/-- What the body starts from, the two inputs staged. -/
def bodyPre (c : Dev nD) (Y : Vec F S2048x2048 .f32) : sProp 𝕄 :=
  iprop(Φ₀ m c ∗ ow (F := F) c (O₀ c) ∗ owns (c : Thread nD τ) xM fullShare (xin m c) ∗ owns (c : Thread nD τ) gM fullShare (gin m c)
    ∗ owns (c : Thread nD τ) oM fullShare Y)

/-- What it ends with. -/
def bodyPost (c : Dev nD) : sProp 𝕄 :=
  iprop(Φ₁ m c ∗ ow (F := F) c (owe c 0) ∗ owns (c : Thread nD τ) xM fullShare (xin m c) ∗ owns (c : Thread nD τ) gM fullShare (gin m c)
    ∗ owns (c : Thread nD τ) oM fullShare (outAt m c))

theorem body_sound (c : Dev nD) (Y : Vec F S2048x2048 .f32) : bodyPre m c Y ⊢ Run c (onBufs cc0_body) (fun _ => bodyPost m c) := by
  unfold bodyPre Φ₀ start G' begun
  iintro ⟨⟨⟨⟨%K, Hrec, ⟨Hbar, Hop⟩, Ht⟩, Hcr, Hlev, Hr⟩, Hs⟩, HO, Hx, Hg, Hy⟩
  iapply (body_run m K c Y) $$ [Hrec Hbar Hop Ht Hcr Hlev Hr Hs HO Hx Hg Hy]
  · isplitl [Hrec]; · iexact Hrec
    isplitl [Hlev]; · iexact Hlev
    isplitl [Hbar]; · iexact Hbar
    isplitl [Hop]; · iexact Hop
    isplitl [Ht]; · iexact Ht
    isplitl [Hcr]; · iexact Hcr
    isplitl [Hs]; · iexact Hs
    isplitl [Hr]; · iexact Hr
    isplitl [HO]; · iexact HO
    isplitl [Hx]; · iexact Hx
    isplitl [Hg]; · iexact Hg
    iexact Hy
  iintro ⟨Hz, Hs, Hr, HO, Hx, Hg, Hy⟩
  unfold bodyPost Φ₁
  isplitl [Hz Hs Hr]
  · isplitl [Hz]; · iexact Hz
    isplitl [Hs] <;> iassumption
  isplitl [HO]; · iexact HO
  isplitl [Hx]; · iexact Hx
  isplitl [Hg] <;> iassumption

/-- What the launch hands the body, and takes back. -/
def obPre (c : Dev nD) : sProp 𝕄 :=
  iprop(Φ₀ m c ∗ (dats m ρ 0 c).owesAt () t0_0.castSucc
    ∗ (∃ d, owns (c : Thread nD τ) xM fullShare ((dats m ρ 0 c).before (0 : Fin 3) t0_0 d))
    ∗ (∃ d, owns (c : Thread nD τ) gM fullShare ((dats m ρ 0 c).before (1 : Fin 3) t0_0 d))
    ∗ (∃ d, owns (c : Thread nD τ) oM fullShare ((dats m ρ 0 c).before (2 : Fin 3) t0_0 d)))
def obPost (c : Dev nD) : sProp 𝕄 :=
  iprop(Φ₁ m c ∗ (dats m ρ 0 c).owesAt () t0_0.succ
    ∗ owns (c : Thread nD τ) xM fullShare (xin m c)
    ∗ owns (c : Thread nD τ) gM fullShare (gin m c)
    ∗ owns (c : Thread nD τ) oM fullShare (outAt m c))

theorem ob_pre (c : Dev nD) : obPre m ρ c ⊢ iprop(∃ Y, bodyPre m c Y) := by
  unfold obPre bodyPre Dat.owesAt Pipeline.owesWithin ow
  iintro ⟨HΦ, ⟨%W, %hW, HO⟩, ⟨%d0, Hx⟩, ⟨%d1, Hg⟩, ⟨%d2, Hy⟩⟩
  ihave Hx' := (Entails.of_eq (congrArg (fun X => (owns (c : Thread nD τ) xM fullShare X : sProp 𝕄)) (before_x m ρ c d0))) $$ Hx
  ihave Hg' := (Entails.of_eq (congrArg (fun X => (owns (c : Thread nD τ) gM fullShare X : sProp 𝕄)) (before_g m ρ c d1))) $$ Hg
  iexists _
  isplitl [HΦ]; · iexact HΦ
  isplitl [HO]; · iexists W; iexact HO
  isplitl [Hx']; · iexact Hx'
  isplitl [Hg']; · iexact Hg'
  iexact Hy

theorem ob_post (c : Dev nD) : bodyPost m c ⊢ obPost m ρ c := by
  unfold obPost bodyPost Dat.owesAt Pipeline.owesWithin ow
  iintro ⟨HΦ, ⟨%W, HO⟩, Hx, Hg, Hy⟩
  isplitl [HΦ]; · iexact HΦ
  isplitl [HO]
  · iexists W
    isplitr; · ipureintro; exact fun _ _ => Or.inl trivial
    iexact HO
  isplitl [Hx]; · iexact Hx
  isplitl [Hg] <;> iassumption

theorem ob_run (c : Dev nD) : obPre m ρ c ⊢ Run c (onBufs cc0_body) (fun _ => obPost m ρ c) := by
  refine (ob_pre m ρ c).trans ?_
  refine BIClass.exists_elim fun Y => ?_
  exact (body_sound m c Y).trans (Idealize.SL.Sem.wp_mono _ _ _ fun _ => ob_post m ρ c)

/-- The launch's obligation on each device: from the staged inputs to the staged result. -/
theorem body_obligation (c : Dev nD) : BodyObligation (dats (F := F) m ρ 0 c) (defs₀ (F := F)) 𝒱₀ () Set.univ := fun t => by
  rw [fin_N0 t, bigSep_W, bigSep_W]
  exact ob_run m ρ c

/-! ## The launch's side conditions -/

theorem ownSemFacts : Pipeline.OwnSemFacts cfg0.spec osem := by decide

theorem share_eq (c : Dev nD) (w : Fin cfg0.W) : (dats (F := F) m ρ 0 c).share w = fullShare := by unfold Dat.share; split <;> rfl

theorem some_whole (c : Dev nD) (b : Ref sig .tc) :
    some' (F := F) c (Memref.whole b) = iprop(∃ f : Buf (Elt F) ((c : Thread nD τ).loc b), ((c : Thread nD τ).loc b) ↦{fullShare} f) := by
  unfold some'
  congr 1
  exact funext fun X => owns_whole (c : Thread nD τ) b fullShare X

theorem scratch_eq (c : Dev nD) : scratch (F := F) c = Pipeline.scopedRest cfg0.spec c := by
  unfold scratch
  rw [scopedRest0_eq, ← some_whole, ← some_whole, ← some_whole, ← some_whole, ← some_whole, ← some_whole, ← some_whole, ← some_whole, ← some_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hr : (Pipeline.unscopedRestP Pipeline.Prefetch.none cfg0.spec c (fun b => m ((c : Thread nD τ).loc b)) : sProp 𝕄)
      = owns (c : Thread nD τ) rM fullShare (rin m c) := by
    rw [Pipeline.unscopedRestP_none, unscopedRest0_eq]
    exact (owns_whole (c : Thread nD τ) main_arg1 fullShare _).symm
  rw [hr]
  iintro ⟨Hr, Hlev, Hcr, -, HG⟩
  ihave Hc := (credits_of_launch (F := F) c) $$ Hcr
  imodintro
  unfold start
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩
  isplitl [Hs] <;> iassumption

theorem phi1_exit (c : Dev nD) :
    (dats m ρ 0 c).Φ (Fin.last cfg0.N) ⊢ iprop((unscopedSems0 c ∗ owns (c : Thread nD τ) rM fullShare (rin m c))
      ∗ Pipeline.ownSems0 osem c ∗ Pipeline.scopedRest cfg0.spec c) := by
  rw [show (dats m ρ 0 c).Φ (Fin.last cfg0.N) = Φ₁ m c from rfl, ← scratch_eq]
  unfold Φ₁
  rw [zeros_eq]
  iintro ⟨⟨Hu, Ho⟩, Hs, Hr⟩
  isplitl [Hu Hr]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- At the end the unscoped semaphores read zero and the residual what it held. -/
theorem end_read (c : Dev nD) (s' : Phys nD τ sig (Elt F)) :
    iprop((unscopedSems0 c ∗ owns (c : Thread nD τ) rM fullShare (rin m c)) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') : sProp 𝕄) := by
  rw [owns_whole]
  iintro ⟨⟨Hu, Hr⟩, -, HSI⟩
  ihave %h := (tcUnscoped_read c s') $$ [Hu HSI]
  · isplitl [Hu] <;> iassumption
  icombine HSI Hr gives %h'
  imodintro
  isplitr
  · ipureintro; exact ⟨h, Buf.eq_of_forall_mem_univ h'⟩
  iexact HSI

/-! ## The run -/

def u₀ : UU := (initOf (Pipeline.cells cfgs cellOf_inj) (Pipeline.launchToks cfgs cellOf_inj), initOf cells rights)

/-- What the run leaves: every array of a window at its final contents, the residual as it was, every counter at zero. -/
def Ends (r : PUnit × MemSt nD τ sig (Elt F)) : Prop :=
  (∀ c : Dev nD, (∀ w : Fin cfg0.W, r.2.mem ((cfg0.win w).arr.view.loc (c : Thread nD τ)) = (dats m ρ 0 c).arrAt w cfg0.N)
    ∧ r.2.mem ((c : Thread nD τ).loc main_arg1) = m ((c : Thread nD τ).loc main_arg1))
  ∧ r.2.sem = fun _ => 0

set_option maxRecDepth 8000 in
theorem run_ends : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ owns (c : Thread nD τ) rM fullShare (rin m c))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := end_read m)
    (hQ := fun _ h hs => ⟨fun c => ⟨(h c).1, (h c).2.2.2⟩, sem_eq_zero hs fun c => (h c).2.2.1⟩)

theorem final_x (c : Dev nD) : (dats m ρ 0 c).arrAt (0 : Fin 3) cfg0.N = m ((c : Thread nD τ).loc main_arg0) :=
  (dats (F := F) m ρ 0 c).arrAt_in (0 : Fin 3) rfl _
theorem final_g (c : Dev nD) : (dats m ρ 0 c).arrAt (1 : Fin 3) cfg0.N = m ((c : Thread nD τ).loc main_arg2) :=
  (dats (F := F) m ρ 0 c).arrAt_in (1 : Fin 3) rfl _

/-- The result array ends at the computed contents. -/
theorem final_out (c : Dev nD) : (dats m ρ 0 c).arrAt (2 : Fin 3) cfg0.N = outAt m c := by
  have h := (dats (F := F) m ρ 0 c).arrAt_succ (2 : Fin 3) t0_0
  rw [if_pos (flush0_2 t0_0)] at h
  have hr (f : main_v1.ty.Contents (Elt F)) : (win0_2.blk t0_0).view.read (Elt F) f = f :=
    Memref.read_access_unit_zero (Elt F) main_v1 (off := fun a => win0_2.index t0_0 a * main_v1.ty.shape.size a) (funext fun a => by fin_cases a <;> decide) (fun a => by fin_cases a <;> decide) f
  have e := hr ((dats (F := F) m ρ 0 c).arrAt (2 : Fin 3) (t0_0.val + 1))
  rw [h] at e
  exact h.trans (e.symm.trans (View.read_write_univ _ _))

/-- From any memory with every counter at zero, every fair execution of the kernel on the four devices ends, with each
    device's result at the computed contents, the three arguments unchanged and every counter at zero. -/
theorem run_main : θ_run defs (onTc (τ := τ) (main (F := F))) ⟨m, fun _ => 0, ρ⟩ fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 :=
  (θ_run defs _ _).mono (fun r h => ⟨fun c => ⟨((h.1 c).1 (2 : Fin 3)).trans (final_out m ρ c), ((h.1 c).1 (0 : Fin 3)).trans (final_x m ρ c),
    (h.1 c).2, ((h.1 c).1 (1 : Fin 3)).trans (final_g m ρ c)⟩, h.2⟩) (run_ends m ρ)

end Cert.Exchange
-- ==== Proof.Norm.lean ====
/-
# What one block of rows computes, over the extended reals

At the ideal values the short format loses nothing, so the kernel's vector operations are sums, and a row divided by
the root of its mean square and scaled.
-/
module

public import proofs.«01_k».proof.Proof.Values
public import Idealize.ShloMosaic.Lib.Pointwise

@[expose] public section

set_option maxRecDepth 16384

noncomputable section

namespace Cert.Exchange

open Cert.KernelIdeal Cert.KernelIdeal.Gen
open Idealize.ShloMosaic

/-- A row `y` divided by the root of its mean square (with the small constant added), times the scale `g`, at `l`. -/
def norm (y g : Fin 2048 → EReal) (l : Fin 2048) : EReal :=
  Ideal.div (y l) (Ideal.sqrt (Ideal.div (∑ x, y x * y x) (Ideal.ofBits FTy.f32 0x45000000#32) + Ideal.ofBits FTy.f32 0x358637BD#32)) * g l

/-- Shortening a block of rows keeps its values. -/
theorem pay1_at (x : Vec Ideal S1x256x2048 .f32) (i : Fin 256) (l : Fin 2048) :
    k0_pay1 (F := Ideal) x (ix3 0 i l) = x (ix3 0 i l) := by pointwise [k0_pay1]

/-- The sum of two blocks is the sum of their values. -/
theorem pay9_at (a b : Vec Ideal S1x256x2048 .bf16) (i : Fin 256) (l : Fin 2048) :
    k0_pay9 (F := Ideal) a b (ix3 0 i l) = (a (ix3 0 i l) + b (ix3 0 i l) : EReal) := by pointwise [k0_pay9]

/-- A slab without its leading axis, at an index. -/
theorem flatten_at (v : Vec Ideal S1x256x2048 .bf16) (i : Fin 256) (l : Fin 2048) : flatten v (ix2 i l) = v (ix3 0 i l) := by
  pointwise [flatten]

/-- The finished rows are the normalised sum of the two blocks and the residual. -/
theorem pay15_at (a : Vec Ideal S1x256x2048 .bf16) (b : Vec Ideal S256x2048 .bf16) (r : Vec Ideal S256x2048 .f32) (g : Vec Ideal S2048 .f32)
    (i : Fin 256) (l : Fin 2048) :
    k0_pay15 (F := Ideal) a b r g (ix2 i l) = norm (fun x => a (ix3 0 i x) + b (ix2 i x) + r (ix2 i x)) (fun x => g (ix1 x)) l := by
  pointwise [k0_pay15, norm]

/-- Finished rows passed on in the short format arrive as they were. -/
theorem pay20_pay16 (a : Vec Ideal S1x256x2048 .bf16) (b : Vec Ideal S256x2048 .bf16) (r : Vec Ideal S256x2048 .f32) (g : Vec Ideal S2048 .f32) :
    k0_pay20 (F := Ideal) (k0_pay16 (F := Ideal) a b r g) = k0_pay15 (F := Ideal) a b r g := by
  funext j
  idx_vars j
  pointwise [k0_pay16, k0_pay20]

end Cert.Exchange

end
-- ==== Proof.Total.lean ====
/-
# What the result array holds, over the extended reals

Each of a block's rows is summed over the four devices in two exchanges; the order of the four differs between the row
halves and the devices, their sum does not. So every device ends with the same rows, whoever finished them.
-/
module

public import proofs.«01_k».proof.Proof.Norm

@[expose] public section

set_option maxRecDepth 16384

noncomputable section

namespace Cert.Exchange

open Cert.KernelIdeal Cert.KernelIdeal.Gen
open Idealize.ShloMosaic
open Idealize.ShloMosaic.TcCoe

/-- A device, its two partners and the partners' common partner are the four devices. -/
theorem four (h : Bool) (k : Dev nD) : (Finset.univ : Finset (Dev nD)) = {k, near h k, far h k, near h (far h k)} := by
  revert h k; decide

/-- No two of them are the same. -/
theorem four_apart (h : Bool) (k : Dev nD) :
    k ∉ ({near h k, far h k, near h (far h k)} : Finset (Dev nD)) ∧ near h k ∉ ({far h k, near h (far h k)} : Finset (Dev nD))
      ∧ far h k ∉ ({near h (far h k)} : Finset (Dev nD)) := by revert h k; decide

/-- The two sums of two, added, are the sum over all devices. -/
theorem sum_four (h : Bool) (k : Dev nD) (f : Dev nD → EReal) :
    f k + f (near h k) + (f (far h k) + f (near h (far h k))) = ∑ d, f d := by
  obtain ⟨a, b, c⟩ := four_apart h k
  rw [four h k, Finset.sum_insert a, Finset.sum_insert b, Finset.sum_insert c, Finset.sum_singleton, add_assoc]

/-- Row `i` of half `h` of block `k`, as a row of the array. -/
def rowAt (h : Bool) (k : Dev nD) (i : Fin 256) : Fin 2048 := ⟨row0 h k + i.val, by have := row0_le h k; omega⟩

/-- The block's rows in a device's input. -/
theorem rows_at (X : Vec Ideal S1x2048x2048 .f32) (h : Bool) (k : Dev nD) (i : Fin 256) (l : Fin 2048) :
    rowsOf X h k (ix3 0 i l) = X (ix3 0 (rowAt h k i) l) := by
  refine congrArg X (funext fun a => Fin.ext ?_)
  match a with
  | ⟨0, _⟩ => exact Nat.zero_add _
  | ⟨1, _⟩ => exact congrArg (row0 h k + ·) (Nat.one_mul _)
  | ⟨2, _⟩ => exact (Nat.zero_add _).trans (Nat.one_mul _)

variable (m : (ℓ : Loc nD τ sig) → Buf (Elt Ideal) ℓ)

/-- The rows a device read of its input, in the short format, keep their values. -/
theorem part_at (h : Bool) (c k : Dev nD) (i : Fin 256) (l : Fin 2048) :
    part m h c k (ix3 0 i l) = xin m c (ix3 0 (rowAt h k i) l) := (pay1_at _ i l).trans (rows_at _ h k i l)

/-- What a device adds up in the first exchange of the rows it keeps: its own and its first partner's. -/
theorem acc0_at (h : Bool) (k : Dev nD) (i : Fin 256) (l : Fin 2048) :
    acc0 m h k (ix3 0 i l) = (xin m k (ix3 0 (rowAt h k i) l) + xin m (near h k) (ix3 0 (rowAt h k i) l) : EReal) := by
  rw [acc0, pay9_at, part_at, snd0, near_near, part_at]

/-- What its second partner adds up of them. -/
theorem acc1_at (h : Bool) (k : Dev nD) (i : Fin 256) (l : Fin 2048) :
    acc1 m h (far h k) (ix3 0 i l) = (xin m (far h k) (ix3 0 (rowAt h k i) l) + xin m (near h (far h k)) (ix3 0 (rowAt h k i) l) : EReal) := by
  rw [acc1, pay9_at, far_far, part_at, snd1, near_near, far_far, part_at]

/-- The half's rows of the residual. -/
theorem res_at (h : Bool) (k : Dev nD) (i : Fin 256) (l : Fin 2048) : resH m h k (ix2 i l) = rin m k (ix2 (rowAt h k i) l) := by
  have e : k0_off5 k = ![512 * k.val, 0] := by revert k; decide
  have e0 := congrFun e 0
  have e1 := congrFun e 1
  cases h <;> refine congrArg (rin m k) (funext fun a => Fin.ext ?_)
  · match a with
    | ⟨0, _⟩ => exact (congrArg (· + 1 * (0 + 1 * i.val)) e0).trans (show 512 * k.val + 1 * (0 + 1 * i.val) = 512 * k.val + 0 + i.val by omega)
    | ⟨1, _⟩ => exact (congrArg (· + 1 * (0 + 1 * l.val)) e1).trans (show 0 + 1 * (0 + 1 * l.val) = l.val by omega)
  · match a with
    | ⟨0, _⟩ => exact (congrArg (· + 1 * (256 + 1 * i.val)) e0).trans (show 512 * k.val + 1 * (256 + 1 * i.val) = 512 * k.val + 256 + i.val by omega)
    | ⟨1, _⟩ => exact (congrArg (· + 1 * (0 + 1 * l.val)) e1).trans (show 0 + 1 * (0 + 1 * l.val) = l.val by omega)

/-- The rows a device finishes: the sum over all devices and the residual, normalised and scaled. -/
theorem fin_at (h : Bool) (k : Dev nD) (i : Fin 256) (l : Fin 2048) :
    fin m h k (ix2 i l) = norm (fun x => (∑ d, xin m d (ix3 0 (rowAt h k i) x) : EReal) + rin m k (ix2 (rowAt h k i) x)) (fun x => gin m k (ix1 x)) l := by
  rw [fin, pay15_at]
  refine congrArg (fun y => norm y _ l) (funext fun x => ?_)
  rw [acc0_at, flatten_at, acc1_at, res_at]
  exact congrArg (· + _) (sum_four h k fun d => xin m d (ix3 0 (rowAt h k i) x))

/-- Whichever device stores them, the rows of block `k` are those that device `k` finished. -/
theorem outH_eq (h : Bool) (c k : Dev nD) : outH m h c k = fin m h k := by
  rw [outH]
  split
  · next e => rw [e]
  · exact pay20_pay16 _ _ _ _

/-- An index of the result lies in the block, the half and the row its row number names. -/
theorem outAt_at (c : Dev nD) (i l : Fin 2048) :
    ∃ k : Dev nD, outAt m c (ix2 i l) = norm (fun x => (∑ d, xin m d (ix3 0 i x) : EReal) + rin m k (ix2 i x)) (fun x => gin m k (ix1 x)) l := by
  have lt : i.val / 512 < 4 := by omega
  refine ⟨⟨i.val / 512, lt⟩, ?_⟩
  have e : rowAt (decide (256 ≤ i.val % 512)) ⟨i.val / 512, lt⟩ ⟨i.val % 256, Nat.mod_lt _ (by decide)⟩ = i := by
    refine Fin.ext ?_
    show 512 * (i.val / 512) + (if decide (256 ≤ i.val % 512) = true then 256 else 0) + i.val % 256 = i.val
    by_cases p : 256 ≤ i.val % 512
    · rw [if_pos (decide_eq_true p)]; omega
    · rw [if_neg (by rw [decide_eq_false p]; decide)]; omega
  have f := fin_at m (decide (256 ≤ i.val % 512)) ⟨i.val / 512, lt⟩ ⟨i.val % 256, Nat.mod_lt _ (by decide)⟩ l
  rw [e] at f
  rw [← f]
  show outH m (decide (256 ≤ i.val % 512)) c ⟨i.val / 512, lt⟩ _ = _
  rw [outH_eq]
  refine congrArg (fin m _ _) (funext fun a => ?_)
  match a with
  | ⟨0, _⟩ => rfl
  | ⟨1, _⟩ => rfl

end Cert.Exchange

end
-- ==== Proof.Reference.lean ====
/-
# What the reference computes, over the extended reals
-/
module

public import proofs.«01_k».proof.Proof.Norm
public import proofs.«01_k».proof.Proof.Gen.ReferenceIdeal.Run

@[expose] public section

set_option maxRecDepth 16384

noncomputable section

namespace Cert.Exchange

open Cert.ReferenceIdeal Cert.ReferenceIdeal.Gen
open Idealize.ShloMosaic

/-- The four parts summed, and the residual added. -/
def summed (X : Vec Ideal S4x2048x2048 .f32) (R : Vec Ideal S2048x2048 .f32) : FVec Ideal S2048x2048 .f32 :=
  addf (Host.reduceAdd X (constant S_ .f32 0x00000000#32) reducesTo_S4x2048x2048_S2048x2048_d0 h_S_) R

/-- The reference's result, as its operations compose it. -/
def wanted (X : Vec Ideal S4x2048x2048 .f32) (R : Vec Ideal S2048x2048 .f32) (G : Vec Ideal S2048 .f32) : FVec Ideal S2048x2048 .f32 :=
  mulf (Host.divf (summed X R) (broadcastInDim S2048x2048 ![0, 1] bcast_S2048x1_S2048x2048_0_1
      (Host.sqrt (addf (Host.divf
          (broadcastInDim S2048x1 ![0] bcast_S2048_S2048x1_0
            (Host.reduceAdd (mulf (summed X R) (summed X R)) (constant S_ .f32 0x00000000#32) reducesTo_S2048x2048_S2048_d1 h_S_))
          (broadcastInDim S2048x1 ![] bcast_S_S2048x1 (constant S_ .f32 0x45000000#32)))
        (broadcastInDim S2048x1 ![] bcast_S_S2048x1 (constant S_ .f32 0x358637BD#32))))))
    (broadcastInDim S2048x2048 ![0, 1] bcast_S1x2048_S2048x2048_0_1 (broadcastInDim S1x2048 ![1] bcast_S2048_S1x2048_1 G))

/-- The summed rows at an index. -/
theorem summed_at (X : Vec Ideal S4x2048x2048 .f32) (R : Vec Ideal S2048x2048 .f32) (i l : Fin 2048) :
    summed X R (ix2 i l) = (∑ d : Fin 4, X (ix3 d i l) : EReal) + R (ix2 i l) := by pointwise [summed]

/-- Each row of the result is the summed row, normalised and scaled. -/
theorem wanted_at (X : Vec Ideal S4x2048x2048 .f32) (R : Vec Ideal S2048x2048 .f32) (G : Vec Ideal S2048 .f32) (i l : Fin 2048) :
    wanted X R G (ix2 i l) = norm (fun x => (∑ d : Fin 4, X (ix3 d i x) : EReal) + R (ix2 i x)) (fun x => G (ix1 x)) l := by
  pointwise [wanted, summed, norm]

end Cert.Exchange

end
-- ==== Proof.Equation.lean ====
/-
# The equation: every device's result is the reference's
-/
module

public import proofs.«01_k».proof.Proof.Total
public import proofs.«01_k».proof.Proof.Reference
public import Idealize.ShloMosaic.Lib.Layout

@[expose] public section

noncomputable section

namespace Cert.Exchange

open Idealize.ShloMosaic
open Idealize.ShloMosaic.TcCoe

/-- Part `d` of the reference's first input, at an index. -/
theorem block_at (X : Vec Ideal Cert.ReferenceIdeal.S4x2048x2048 .f32) (d : Fin 4) (i l : Fin 2048) :
    Layout.block ⟨3, ![1, 2048, 2048]⟩ ⟨3, ![4, 2048, 2048]⟩ 0 4 d X (by decide) (ix3 0 i l) = X (ix3 d i l) := by
  refine congrArg X (funext fun a => Fin.ext ?_)
  match a with
  | ⟨0, _⟩ => show d.val * 1 + 0 = d.val; omega
  | ⟨1, _⟩ => rfl
  | ⟨2, _⟩ => rfl

/-- Where each device holds its part of the reference's first input and the whole of the other two, each device's
    result array is the reference's. -/
theorem out_eq_wanted (m : (ℓ : Loc Cert.KernelIdeal.nD Cert.KernelIdeal.τ Cert.KernelIdeal.sig) → Buf (Elt Ideal) ℓ)
    (X : Vec Ideal Cert.ReferenceIdeal.S4x2048x2048 .f32) (R : Vec Ideal Cert.ReferenceIdeal.S2048x2048 .f32)
    (G : Vec Ideal Cert.ReferenceIdeal.S2048 .f32)
    (hX : ∀ d : Fin 4, xin m d = Layout.block ⟨3, ![1, 2048, 2048]⟩ ⟨3, ![4, 2048, 2048]⟩ 0 4 d X (by decide))
    (hR : ∀ d, rin m d = R) (hG : ∀ d, gin m d = G) (c : Dev Cert.KernelIdeal.nD) : outAt m c = wanted X R G := by
  funext j
  obtain ⟨i, l, rfl⟩ : ∃ i l : Fin 2048, j = ix2 i l := ⟨j 0, j 1, eq_ix2 j⟩
  obtain ⟨k, e⟩ := outAt_at m c i l
  rw [e, wanted_at, hR, hG]
  refine congrArg (fun y => norm y _ l) (funext fun x => congrArg (fun s : EReal => s + R (ix2 i x)) ?_)
  exact Finset.sum_congr rfl fun d _ => (congrFun (hX d) _).trans (block_at X d i x)

end Cert.Exchange

end
-- ==== Proof.Same.lean ====
/-
# The two printed programs are one

The kernel is printed once for machine words and once for the extended reals, with the same text; its bodies agree as they
stand, and so do the tables of bodies, label by label.
-/
module

public import proofs.«01_k».proof.Defs
public import proofs.«01_k».proof.Proof.Gen.Kernel
public import proofs.«01_k».proof.Proof.Gen.KernelIdeal

@[expose] public section

set_option maxRecDepth 65536

noncomputable section

namespace Cert.Exchange

open Idealize.ShloMosaic

variable (F : FTy → Type) [FloatOps F]

/-- The tables of the kernels' bodies are the same. -/
theorem bodies_eq : Cert.Kernel.defs₀ (F := F) = Cert.KernelIdeal.defs₀ (F := F) := by
  refine congrArg (Defs.onTc (nD := Cert.Kernel.nD) (τ := Cert.Kernel.τ) (sig := Cert.Kernel.sig) (Λ := Cert.Kernel.Λ₀)) ?_
  funext l a
  match l, a with
  | 0, (t, s) => rfl
  | ⟨_ + 1, h⟩, _ => exact absurd h (Nat.not_lt.2 (Nat.le_add_left _ _))

/-- And so are the programs' tables, with the pipeline's labels. -/
theorem defs_eq : Cert.Kernel.defs (F := F) = Cert.KernelIdeal.defs (F := F) :=
  congrArg (Pipeline.defs Cert.Kernel.pcfgs) (bodies_eq F)

end Cert.Exchange

end
-- ==== Proof.lean ====
/-
# The claims about the kernel

The run is proved once, at any float values: it gives both frames of the kernel, whose two
printed programs are one. Over the extended reals the result array
it leaves on every device is what the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import proofs.«01_k».proof.Proof.Same
public import Idealize.ShloMosaic.Adequacy
public import Idealize.ShloMosaic.Lib.Pipeline.Quiescent
public import Idealize.ShloMosaic.Init

@[expose] public section

noncomputable section

namespace Cert.Proof

open Idealize.ShloMosaic Idealize.SL.Sem Cert.Exchange

/-- The kernel's frame at machine words: it ends, its arguments unchanged and every counter at zero. -/
theorem frame_kernel : Cert.quiescent_Kernel := fun m ρ _ => by
  rw [defs_eq]
  exact (θ_run Cert.KernelIdeal.defs _ _).mono (fun _ h => ⟨fun c => (h.1 c).2, h.2⟩) (run_main (F := Bits) m ρ)

/-- The same over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The reference's frame; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's. -/
theorem equal : Cert.algebraic_KernelIdeal_ReferenceIdeal := fun m ρ m' ρ' _ hin =>
  ⟨wanted _ _ _,
    (θ_run Cert.KernelIdeal.defs _ _).mono
      (fun _ h c => ⟨(h.1 c).1.trans (out_eq_wanted m _ _ _ (fun d => (hin d).1) (fun d => (hin d).2.1) (fun d => (hin d).2.2) c), (h.1 c).2⟩)
      (run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, equal⟩

end Cert.Proof

end
